-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "levels" .bf16 0x41CB#16 ((127 / 5 : ℝ) : EReal)
  ∧ IdealRules.named_const.Statement Cert.KernelIdeal.κ "score_scale" .bf16 0x3B64#16 (((Real.sqrt 128)⁻¹ * (5 / 127) : ℝ) : EReal)
  ∧ IdealRules.named_const.Statement Cert.KernelIdeal.κ "step" .f32 0x3D214285#32 ((5 / 127 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 128]⟩ ⟨2, ![4096, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 128]⟩ ⟨2, ![4096, 128]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 128]⟩ ⟨2, ![4096, 128]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 128]⟩ ⟨2, ![4096, 128]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x128 : Shape := ⟨2, ![512, 128]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn {F : FTy → Type} [FloatOps F] (main_arg0 : FVec F S512x128 .bf16) (main_arg1 : FVec F S512x128 .bf16) (main_arg2 : FVec F S512x128 .bf16) : IVec S_ 1 :=
  let main_v0 : FVec F S512x128 .bf16 := Host.absf main_arg0
  let main_cst : FVec F S_ .bf16 := constant S_ .bf16 0x7F80#16
  let main_v1 : FVec F S512x128 .bf16 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  main_v3
-- ==== Pre_finite_ReferenceIdeal.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .bf16) (main_arg1 : FVec F S4096x128 .bf16) (main_arg2 : FVec F S4096x128 .bf16) : IVec S_ 1 :=
  let main_v0 : FVec F S4096x128 .bf16 := Host.absf main_arg0
  let main_cst : FVec F S_ .bf16 := constant S_ .bf16 0x7F80#16
  let main_v1 : FVec F S4096x128 .bf16 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S512x128 : Shape := ⟨2, ![512, 128]⟩
abbrev S8x2x512x128 : Shape := ⟨4, ![8, 2, 512, 128]⟩
abbrev S7 : Shape := ⟨1, ![7]⟩
abbrev S8 : Shape := ⟨1, ![8]⟩
abbrev S_ : Shape := ⟨0, ![]⟩
abbrev S1x1x512x128 : Shape := ⟨4, ![1, 1, 512, 128]⟩
abbrev S1 : Shape := ⟨1, ![1]⟩
abbrev S1x2x512x128 : Shape := ⟨4, ![1, 2, 512, 128]⟩
abbrev S2x512x128 : Shape := ⟨3, ![2, 512, 128]⟩
abbrev S512x1 : Shape := ⟨2, ![512, 1]⟩
abbrev S512x512 : Shape := ⟨2, ![512, 512]⟩
abbrev S512 : Shape := ⟨1, ![512]⟩

abbrev nBuf : Space → Nat
  | .hbm => 4
  | .vmem => 5
  | .smem => 0
  | _ => 0

abbrev bufTy : (tb : Table) → Fin (tcTables nBuf tb) → BufTy
  | .hbm, ⟨0, _⟩ => ⟨S512x128, .bf16⟩
  | .hbm, ⟨1, _⟩ => ⟨S512x128, .bf16⟩
  | .hbm, ⟨2, _⟩ => ⟨S512x128, .bf16⟩
  | .hbm, ⟨3, _⟩ => ⟨S512x128, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .f32⟩
  | .local _ .vmem, ⟨4, _⟩ => ⟨S8x2x512x128, .i8⟩
  | _, _ => ⟨S512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v44 : Index := Scalar.indexCast v2
  let c0_29 : Index := 0#32
  let c0_30 : Index := 0#32
  let c0_31 : Index := 0#32
  ![v44.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : Index := Scalar.indexCast v2
  let c1 : Index := 1#32
  let c0_37 : Index := 0#32
  let c0_38 : Index := 0#32
  ![v60.toNat, 1, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_45 : BitVec 32 := 0#32
  let c0_i32_46 : BitVec 32 := 0#32
  let c0_i32_47 : BitVec 32 := 0#32
  ![v2.toNat, 0, 0, 0]
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v64 : BitVec 32 := Scalar.addi v2 c1_i32_40
  let c8_i32_41 : BitVec 32 := 8#32
  let v65 : BitVec 32 := Scalar.remsi v64 c8_i32_41
  let c1_i32_43 : BitVec 32 := 1#32
  let v66 : BitVec 32 := Scalar.muli v65 c1_i32_43
  let v67 : BitVec 32 := Scalar.addi c0_i32_44 v66
  v67.toNat
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_51 : BitVec 32 := 2#32
  let v76 : BitVec 32 := Scalar.addi v2 c2_i32_51
  let c8_i32_52 : BitVec 32 := 8#32
  let v77 : BitVec 32 := Scalar.remsi v76 c8_i32_52
  let c1_i32_54 : BitVec 32 := 1#32
  let v78 : BitVec 32 := Scalar.muli v77 c1_i32_54
  let v79 : BitVec 32 := Scalar.addi c0_i32_55 v78
  v79.toNat
def k0_dev10 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_62 : BitVec 32 := 3#32
  let v88 : BitVec 32 := Scalar.addi v2 c3_i32_62
  let c8_i32_63 : BitVec 32 := 8#32
  let v89 : BitVec 32 := Scalar.remsi v88 c8_i32_63
  let c1_i32_65 : BitVec 32 := 1#32
  let v90 : BitVec 32 := Scalar.muli v89 c1_i32_65
  let v91 : BitVec 32 := Scalar.addi c0_i32_66 v90
  v91.toNat
def k0_dev11 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v100 : BitVec 32 := Scalar.addi v2 c4_i32_73
  let c8_i32_74 : BitVec 32 := 8#32
  let v101 : BitVec 32 := Scalar.remsi v100 c8_i32_74
  let c1_i32_76 : BitVec 32 := 1#32
  let v102 : BitVec 32 := Scalar.muli v101 c1_i32_76
  let v103 : BitVec 32 := Scalar.addi c0_i32_77 v102
  v103.toNat
def k0_dev12 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_84 : BitVec 32 := 5#32
  let v112 : BitVec 32 := Scalar.addi v2 c5_i32_84
  let c8_i32_85 : BitVec 32 := 8#32
  let v113 : BitVec 32 := Scalar.remsi v112 c8_i32_85
  let c1_i32_87 : BitVec 32 := 1#32
  let v114 : BitVec 32 := Scalar.muli v113 c1_i32_87
  let v115 : BitVec 32 := Scalar.addi c0_i32_88 v114
  v115.toNat
def k0_dev13 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_95 : BitVec 32 := 6#32
  let v124 : BitVec 32 := Scalar.addi v2 c6_i32_95
  let c8_i32_96 : BitVec 32 := 8#32
  let v125 : BitVec 32 := Scalar.remsi v124 c8_i32_96
  let c1_i32_98 : BitVec 32 := 1#32
  let v126 : BitVec 32 := Scalar.muli v125 c1_i32_98
  let v127 : BitVec 32 := Scalar.addi c0_i32_99 v126
  v127.toNat
def k0_dev14 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v136 : BitVec 32 := Scalar.addi v2 c7_i32_106
  let c8_i32_107 : BitVec 32 := 8#32
  let v137 : BitVec 32 := Scalar.remsi v136 c8_i32_107
  let c1_i32_109 : BitVec 32 := 1#32
  let v138 : BitVec 32 := Scalar.muli v137 c1_i32_109
  let v139 : BitVec 32 := Scalar.addi c0_i32_110 v138
  v139.toNat
def k0_off5 (d0 : Dev nD) (c7_i32_131 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v170 : BitVec 32 := Scalar.addi v2 c7_i32_131
  let c8_i32_132 : BitVec 32 := 8#32
  let v171 : BitVec 32 := Scalar.remsi v170 c8_i32_132
  ![v171.toNat]
def k0_off6 (d0 : Dev nD) (c7_i32_131 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v170 : BitVec 32 := Scalar.addi v2 c7_i32_131
  let c8_i32_132 : BitVec 32 := 8#32
  let v171 : BitVec 32 := Scalar.remsi v170 c8_i32_132
  let c0_i32_136 : BitVec 32 := 0#32
  let c0_i32_137 : BitVec 32 := 0#32
  let c0_i32_138 : BitVec 32 := 0#32
  ![v171.toNat, 0, 0, 0]
def k0_off7 (d0 : Dev nD) (c7_i32_131 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v170 : BitVec 32 := Scalar.addi v2 c7_i32_131
  let c8_i32_132 : BitVec 32 := 8#32
  let v171 : BitVec 32 := Scalar.remsi v170 c8_i32_132
  let v180 : Index := Scalar.indexCast v171
  let c0_142 : Index := 0#32
  let c0_143 : Index := 0#32
  let c0_144 : Index := 0#32
  ![v180.toNat, 0, 0, 0]
def k0_off8 (d0 : Dev nD) (c7_i32_131 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v170 : BitVec 32 := Scalar.addi v2 c7_i32_131
  let c8_i32_132 : BitVec 32 := 8#32
  let v171 : BitVec 32 := Scalar.remsi v170 c8_i32_132
  let v184 : Index := Scalar.indexCast v171
  let c1_145 : Index := 1#32
  let c0_146 : Index := 0#32
  let c0_147 : Index := 0#32
  ![v184.toNat, 1, 0, 0]
abbrev stage0_0 : Fin 1 → Memref sig .tc .vmem S512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "levels" => some ((127 / 5 : ℝ) : EReal)
  | "score_scale" => some (((Real.sqrt 128)⁻¹ * (5 / 127) : ℝ) : EReal)
  | "step" => some ((5 / 127 : ℝ) : EReal)
  | _ => none
-- ==== ReferenceIdeal.lean ====
abbrev S4096x128 : Shape := ⟨2, ![4096, 128]⟩
abbrev S_ : Shape := ⟨0, ![]⟩
abbrev S128x4096 : Shape := ⟨2, ![128, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x128, .bf16⟩
  | .hbm, ⟨2, _⟩ => ⟨S4096x128, .bf16⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S_, .f32⟩
  | .hbm, ⟨7, _⟩ => ⟨S4096x128, .f32⟩
  | .hbm, ⟨8, _⟩ => ⟨S4096x128, .f32⟩
  | .hbm, ⟨9, _⟩ => ⟨S_, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S128x4096, .f32⟩
  | .hbm, ⟨49, _⟩ => ⟨S4096x4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x4096, .f32⟩
  | .hbm, ⟨65, _⟩ => ⟨S4096x4096, .f32⟩
  | .hbm, ⟨66, _⟩ => ⟨S4096x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_cst_8 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_cst_10 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_11 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_12 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_13 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩

abbrev nD : Nat := 1
abbrev τ : Topo := Topo.v7x

variable {F : FTy → Type} [FloatOps F]
-- ==== Proof.Protocol.lean ====
/-
The cross-device protocol of the attention kernel.

Eight devices hold the slot array `kv[8, 2, 512, 128]`, one copy each. Device `c` fills slot `c` of its own copy and
copies that slot into slot `c` of every other device's copy.

* Barrier cell of `c`: seven units, one from each other device. Device `pl c j` pays duty `j` and hands over
  slot `c` of ITS copy, at any contents. Device `c` waits for all seven before it copies anything.
* Send cell `j` of `c`: one duty, paid by the copy to device `pl c j` when its source has been read. It returns the
  share of the own slot that the copy borrowed.
* Receive cell `s` of `c` (`s ≠ c`): one duty, paid by device `s`'s copy. It hands over slot `s` of `c`'s array, at
  the contents device `s` computed. Receive cell `c` of `c` is never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

variable {F : FTy → Type} [FloatOps F] [Named F]

/-- The rounds state of the kernel's own cells; duties are numbered by `Fin 7`. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state the program starts from: memory `m`, every counter at zero. -/
def s₀ : MemSt nD τ sig (Elt F) := ⟨m, fun _ => 0, ρ⟩

/-! ## Devices -/

/-- The device `j + 1` places after `c`. -/
def pl (c : Dev nD) (j : Fin 7) : Dev nD := ⟨(c.val + j.val + 1) % 8, Nat.mod_lt _ (by decide)⟩

theorem pl_rev (c : Dev nD) (j : Fin 7) : pl (pl c j) j.rev = c := by revert c j; decide
theorem pl_ne (c : Dev nD) (j : Fin 7) : pl c j ≠ c := by revert c j; decide
theorem pl_inj (c : Dev nD) : Function.Injective (pl c) := by revert c; decide

/-! ## Cells -/

abbrev barS : Sem sig := barrier0
def sendS (j : Fin 7) : DmaSem sig := ⟨4 + j.val, by have := j.isLt; show 4 + j.val < 19; omega⟩
def recvS (s : Dev nD) : DmaSem sig := ⟨11 + s.val, by have h : s.val < 8 := s.isLt; show 11 + s.val < 19; omega⟩

abbrev barCell (c : Dev nD) : GSem nD τ sig := ((c : Thread nD τ), .reg barS)
abbrev sendCell (c : Dev nD) (j : Fin 7) : GSem nD τ sig := ((c : Thread nD τ), .dma (sendS j))
abbrev recvCell (c s : Dev nD) : GSem nD τ sig := ((c : Thread nD τ), .dma (recvS s))

/-- A device's sixteen cells: the barrier's, seven send, eight receive. -/
abbrev KI : Type := Unit ⊕ Fin 7 ⊕ Dev nD

def semOf : KI → SemLoc sig
  | .inl _ => .reg barS
  | .inr (.inl j) => .dma (sendS j)
  | .inr (.inr s) => .dma (recvS s)

abbrev kcell (ck : Dev nD × KI) : GSem nD τ sig := ((ck.1 : Thread nD τ), semOf ck.2)

theorem semOf_injective : Function.Injective semOf := by decide

/-! ## Slots and their contents -/

abbrev kvM : Memref sig .tc .vmem S8x2x512x128 .i8 := Memref.whole cc0_scratch0

/-- Slot `s` as the copies name it. -/
abbrev slotM (s : Dev nD) : Memref sig .tc .vmem S2x512x128 .i8 :=
  (kvM.slice (Rect.unit (s := S8x2x512x128) (k0_off4 s) S1x2x512x128.size (k0_off4_inb s)) (fun _ => rfl)).squeeze S2x512x128 squeezes_S1x2x512x128_S2x512x128

abbrev N : ℕ := (slotM 0).view.dmaCredit
theorem N_pos : 0 < N := View.dmaCredit_pos _ (by decide)

/-- The elements of slot `s`. -/
def slotSet (s : Dev nD) : Finset S8x2x512x128.Idx :=
  (Rect.unit (s := S8x2x512x128) (k0_off4 s) S1x2x512x128.size (k0_off4_inb s)).set

omit [FloatOps F] [Named F] in
theorem slotM_set (s : Dev nD) : (slotM s).view.set = slotSet s :=
  (View.set_reshape _ _).trans (View.set_slice_whole cc0_scratch0 _)

theorem mem_slotSet {s : Dev nD} {i : S8x2x512x128.Idx} : i ∈ slotSet s ↔ (i 0).val = s.val := by
  unfold slotSet
  rw [Rect.mem_set_unit, k0_off4_eq]
  constructor
  · intro h
    have h0 := h 0
    have h1 : (![s.val, 0, 0, 0] : Fin 4 → ℕ) 0 ≤ (i 0).val := h0.1
    have h2 : (i 0).val < (![s.val, 0, 0, 0] : Fin 4 → ℕ) 0 + 1 := h0.2
    simp at h1 h2
    omega
  · intro h a
    fin_cases a
    · show s.val ≤ (i 0).val ∧ (i 0).val < s.val + 1
      omega
    · exact ⟨Nat.zero_le _, (i 1).isLt.trans_eq (by rfl)⟩
    · exact ⟨Nat.zero_le _, (i 2).isLt.trans_eq (by rfl)⟩
    · exact ⟨Nat.zero_le _, (i 3).isLt.trans_eq (by rfl)⟩

theorem slot_disjoint {s t : Dev nD} (h : s ≠ t) : Disjoint (slotSet s) (slotSet t) :=
  Finset.disjoint_left.mpr fun i hs ht => h (Fin.ext ((mem_slotSet.mp hs).symm.trans (mem_slotSet.mp ht)))

/-- The whole slot array is its eight slots. -/
theorem slot_cover : (Finset.univ : Finset (Dev nD)).biUnion slotSet = Finset.univ :=
  Finset.eq_univ_of_forall fun i => Finset.mem_biUnion.mpr ⟨⟨(i 0).val, (i 0).isLt⟩, Finset.mem_univ _, mem_slotSet.mpr rfl⟩

/-- What device `c` stages of `q`, `k` and `v`: its rows. -/
def qstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))

/-- The rounded keys and values device `s` puts in its slot. -/
def kslot (s : Dev nD) : IVec S1x1x512x128 8 := k0_pay1 (kstg m ρ s)
def vslot (s : Dev nD) : IVec S1x1x512x128 8 := k0_pay3 (k0_pay2 (vstg m ρ s))

/-- The place of an element within its half slot. -/
def inner (i : S8x2x512x128.Idx) : S1x1x512x128.Idx := fun a => match a with
  | ⟨0, _⟩ => (⟨0, Nat.one_pos⟩ : Fin 1)
  | ⟨1, _⟩ => (⟨0, Nat.one_pos⟩ : Fin 1)
  | ⟨2, _⟩ => (i 2 : Fin 512)
  | ⟨3, _⟩ => (i 3 : Fin 128)

/-- The slot array as it stands at the end, the same on every device. -/
def KV : (cc0_scratch0 : Ref sig .tc).ty.Contents (Elt F) := fun i : S8x2x512x128.Idx =>
  if (i 1).val = 0 then kslot m ρ (i 0 : Fin 8) (inner i) else vslot m ρ (i 0 : Fin 8) (inner i)

/-- Share `q` of slot `s` of device `c`'s array, at the final contents. -/
def slotPts (c s : Dev nD) (q : PosShare TreeShare) : sProp 𝕄 := ((c : Thread nD τ).loc cc0_scratch0) ↦[slotSet s]{q} (KV m ρ)
/-- Slot `s` of device `c`'s array, whole, at any contents. -/
def slotAny (c s : Dev nD) : sProp 𝕄 := iprop(∃ f : Buf (Elt F) ((c : Thread nD τ).loc cc0_scratch0), ((c : Thread nD τ).loc cc0_scratch0) ↦[slotSet s]{fullShare} f)

instance slotPts_storable (c s : Dev nD) (q) : BI.Storable (upEmb : UEmb _ 𝕄) (slotPts (F := F) m ρ c s q) := by unfold slotPts; infer_instance
instance slotAny_storable (c s : Dev nD) : BI.Storable (upEmb : UEmb _ 𝕄) (slotAny (F := F) c s) := by unfold slotAny; infer_instance

/-- The share of its own slot a device keeps after `n` copies, and the share it lends to copy `n`. -/
def keep : ℕ → PosShare TreeShare
  | 0 => fullShare
  | n + 1 => (keep n).right
def lend (n : ℕ) : PosShare TreeShare := (keep n).left

theorem slot_split (c : Dev nD) (n : ℕ) : (slotPts (F := F) m ρ c c (keep n)) ⊣⊢ iprop(slotPts m ρ c c (lend n) ∗ slotPts m ρ c c (keep (n + 1))) :=
  pointsTo_share (PosShare.mem_left_op_right (keep n))

/-! ## The schedule -/

def sendDuty (q : DmaSem sig) : Prop := 4 ≤ q.val ∧ q.val < 11
def recvDuty (c : Dev nD) (q : DmaSem sig) : Prop := 11 ≤ q.val ∧ q.val ≠ 11 + c.val
instance (q) : Decidable (sendDuty q) := inferInstanceAs (Decidable (_ ∧ _))
instance (c q) : Decidable (recvDuty c q) := inferInstanceAs (Decidable (_ ∧ _))

def dutiesOf (c : Dev nD) : SemLoc sig → Finset (Fin 7)
  | .reg _ => Finset.univ
  | .dma q => if sendDuty q ∨ recvDuty c q then {0} else ∅

def amountOf : SemLoc sig → ℕ
  | .reg _ => 1
  | .dma _ => N

def payOf (c : Dev nD) (d : Fin 7) : SemLoc sig → sProp 𝕄
  | .reg _ => slotAny (pl c d) c
  | .dma q => if q.val < 11 then slotPts m ρ c c (lend (q.val - 4))
      else slotPts m ρ c (⟨q.val - 11, by have h : q.val < 19 := q.isLt; show q.val - 11 < 8; omega⟩ : Dev nD) fullShare

instance payOf_storable (c : Dev nD) (d : Fin 7) (sm : SemLoc sig) : BI.Storable (upEmb : UEmb _ 𝕄) (payOf (F := F) m ρ c d sm) := by
  unfold payOf
  (repeat' split) <;> infer_instance

def Rd : Rounds.Schedule (GSem nD τ sig) (Fin 7) 𝕄 where
  duties g r := if r = 0 ∧ g.1.2 = .tc then dutiesOf g.1.1 g.2 else ∅
  unitless _ := False
  amount g _ _ := amountOf g.2
  payload g _ d := payOf m ρ g.1.1 d g.2
  amount_pos g _ _ _ := by
    obtain ⟨_, _ | _⟩ := g
    · exact Nat.one_pos
    · exact N_pos

instance Rd_payload_storable (g : GSem nD τ sig) (r : ℕ) (d : Fin 7) : BI.Storable (upEmb : UEmb _ 𝕄) ((Rd (F := F) m ρ).payload g r d) :=
  payOf_storable m ρ _ _ _

section Tables
variable (c : Dev nD)

theorem duties_bar : (Rd (F := F) m ρ).duties (barCell c) 0 = Finset.univ := by
  show (if 0 = 0 ∧ (c : Thread nD τ).2 = .tc then dutiesOf c (.reg barS) else ∅) = _
  rw [if_pos ⟨rfl, rfl⟩]; rfl
theorem duties_send (j : Fin 7) : (Rd (F := F) m ρ).duties (sendCell c j) 0 = {0} := by
  show (if 0 = 0 ∧ (c : Thread nD τ).2 = .tc then dutiesOf c (.dma (sendS j)) else ∅) = _
  rw [if_pos ⟨rfl, rfl⟩]
  exact if_pos (Or.inl (by have := j.isLt; unfold sendDuty; show 4 ≤ 4 + j.val ∧ 4 + j.val < 11; omega))
theorem duties_recv {s : Dev nD} (h : s ≠ c) : (Rd (F := F) m ρ).duties (recvCell c s) 0 = {0} := by
  show (if 0 = 0 ∧ (c : Thread nD τ).2 = .tc then dutiesOf c (.dma (recvS s)) else ∅) = _
  rw [if_pos ⟨rfl, rfl⟩]
  refine if_pos (Or.inr ?_)
  have h' : s.val ≠ c.val := fun e => h (Fin.ext e)
  unfold recvDuty; show 11 ≤ 11 + s.val ∧ 11 + s.val ≠ 11 + c.val
  omega
theorem duties_later (g : GSem nD τ sig) : ∀ r, 1 ≤ r → (Rd (F := F) m ρ).duties g r = ∅ :=
  fun r hr => if_neg fun h => by omega
theorem duties_self : ∀ r, 0 ≤ r → (Rd (F := F) m ρ).duties (recvCell c c) r = ∅ := fun r _ => by
  show (if r = 0 ∧ _ then dutiesOf c (.dma (recvS c)) else ∅) = _
  split
  · refine if_neg ?_
    unfold sendDuty recvDuty
    show ¬ ((4 ≤ 11 + c.val ∧ 11 + c.val < 11) ∨ (11 ≤ 11 + c.val ∧ 11 + c.val ≠ 11 + c.val))
    omega
  · rfl

theorem amount_bar (d) : (Rd (F := F) m ρ).amount (barCell c) 0 d = 1 := rfl
theorem amount_send (j d) : (Rd (F := F) m ρ).amount (sendCell c j) 0 d = N := rfl
theorem amount_recv (s d) : (Rd (F := F) m ρ).amount (recvCell c s) 0 d = N := rfl

theorem expect_bar : (Rd (F := F) m ρ).expect (barCell c) 0 = 7 := by
  unfold Schedule.expect Schedule.amountOf
  rw [duties_bar, Finset.sum_congr rfl fun d _ => amount_bar m ρ c d]; rfl
theorem expect_send (j) : (Rd (F := F) m ρ).expect (sendCell c j) 0 = N := by
  unfold Schedule.expect Schedule.amountOf; rw [duties_send, Finset.sum_singleton, amount_send]
theorem expect_recv {s : Dev nD} (h : s ≠ c) : (Rd (F := F) m ρ).expect (recvCell c s) 0 = N := by
  unfold Schedule.expect Schedule.amountOf; rw [duties_recv m ρ c h, Finset.sum_singleton, amount_recv]

theorem payload_bar (d) : (Rd (F := F) m ρ).payload (barCell c) 0 d = slotAny (pl c d) c := rfl
theorem payload_send (j d) : (Rd (F := F) m ρ).payload (sendCell c j) 0 d = slotPts m ρ c c (lend j.val) := by
  refine (if_pos (show 4 + j.val < 11 by have := j.isLt; omega)).trans ?_
  rw [show (sendS j).val - 4 = j.val from Nat.add_sub_cancel_left ..]
theorem payload_recv (s d) : (Rd (F := F) m ρ).payload (recvCell c s) 0 d = slotPts m ρ c s fullShare := by
  refine (if_neg (show ¬ 11 + s.val < 11 by omega)).trans ?_
  congr 1
  exact Fin.ext (Nat.add_sub_cancel_left ..)

theorem rest_bar : bigSep ((Rd (F := F) m ρ).duties (barCell c) 0 \ ∅) (fun d => (Rd (F := F) m ρ).payload (barCell c) 0 d)
    = bigSep Finset.univ fun j : Fin 7 => slotAny (pl c j) c := by
  rw [Finset.sdiff_empty, duties_bar]; rfl
theorem rest_send (j) : bigSep ((Rd (F := F) m ρ).duties (sendCell c j) 0 \ ∅) (fun d => (Rd (F := F) m ρ).payload (sendCell c j) 0 d)
    = slotPts m ρ c c (lend j.val) := by
  rw [Finset.sdiff_empty, duties_send, bigSep_singleton, payload_send]
theorem rest_recv {s : Dev nD} (h : s ≠ c) : bigSep ((Rd (F := F) m ρ).duties (recvCell c s) 0 \ ∅) (fun d => (Rd (F := F) m ρ).payload (recvCell c s) 0 d)
    = slotPts m ρ c s fullShare := by
  rw [Finset.sdiff_empty, duties_recv m ρ c h, bigSep_singleton, payload_recv]

end Tables

/-! ## What each device owes; the levels -/

/-- Copies not yet started from step `n` on, and signals not yet sent. -/
def owedR (c : Dev nD) (n : ℕ) : CellTallies nD τ sig Unit := ∑ j ∈ rangeSet 7 n 7, tallyAt (recvCell (pl c j) c) () N
def owedB (c : Dev nD) (n : ℕ) : CellTallies nD τ sig Unit := ∑ j ∈ rangeSet 7 n 7, tallyAt (barCell (pl c j)) () 1

def O₀ (c : Dev nD) : CellTallies nD τ sig Unit := owedR c 0 + owedB c 0

theorem owedR_step (c : Dev nD) (n : ℕ) (h : n < 7) : owedR c n = owedR c (n + 1) + tallyAt (recvCell (pl c ⟨n, h⟩) c) () N := by
  unfold owedR
  rw [rangeSet_head h h, Finset.sum_insert (head_not_mem_rangeSet h), add_comm]
theorem owedB_step (c : Dev nD) (n : ℕ) (h : n < 7) : owedB c n = owedB c (n + 1) + tallyAt (barCell (pl c ⟨n, h⟩)) () 1 := by
  unfold owedB
  rw [rangeSet_head h h, Finset.sum_insert (head_not_mem_rangeSet h), add_comm]
theorem owedR_end (c : Dev nD) : owedR c 7 = 0 := by unfold owedR; rw [rangeSet_empty le_rfl]; rfl
theorem owedB_end (c : Dev nD) : owedB c 7 = 0 := by unfold owedB; rw [rangeSet_empty le_rfl]; rfl

/-- A positive sum of tallies is positive at one of its cells. -/
theorem tally_pos {I : Type} (S : Finset I) (f : I → GSem nD τ sig) (k : ℕ) {g : GSem nD τ sig} {u : Unit}
    (h : 0 < (∑ j ∈ S, tallyAt (f j) () k : CellTallies nD τ sig Unit) g u) : ∃ j ∈ S, g = f j := by
  rw [Finset.sum_apply, Finsupp.finset_sum_apply] at h
  obtain ⟨j, hj, hp⟩ := Finset.exists_ne_zero_of_sum_ne_zero h.ne'
  refine ⟨j, hj, ?_⟩
  by_contra hn
  rw [tallyAt_apply, if_neg (fun h' => hn h'.1)] at hp
  exact hp rfl

def L (g : GSem nD τ sig) : Finset Unit := if g.1.2 = .tc then {()} else ∅
def lv (g : GSem nD τ sig) (_ : Unit) : ℕ := match g.2 with
  | .reg _ => 1
  | .dma q => if 11 ≤ q.val then 2 else 0
theorem L_of_ne (g : GSem nD τ sig) (h : g.1.2 ≠ .tc) : L g = ∅ := if_neg h
theorem L_tc (c : Dev nD) (sm : SemLoc sig) : L ((c : Thread nD τ), sm) = {()} := if_pos rfl
theorem lv_recv (c s : Dev nD) (u) : lv (recvCell c s) u = 2 := if_pos (Nat.le_add_right _ _)

theorem O₀_pos {c : Dev nD} {g : GSem nD τ sig} {u : Unit} (h : 0 < O₀ c g u) : (∃ j, g = recvCell (pl c j) c) ∨ ∃ j, g = barCell (pl c j) := by
  unfold O₀ at h
  rw [Pi.add_apply, Finsupp.add_apply] at h
  rcases Nat.eq_zero_or_pos (owedR c 0 g u) with h0 | h0
  · rw [h0, Nat.zero_add] at h
    obtain ⟨j, -, e⟩ := tally_pos _ _ _ h
    exact .inr ⟨j, e⟩
  · obtain ⟨j, -, e⟩ := tally_pos _ _ _ h0
    exact .inl ⟨j, e⟩

theorem mayWait_stage (c : Dev nD) (q : DmaSem sig) (hq : q.val < 11) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; exact (if_neg (by omega)).le)
      (fun g u hg => by
        rcases O₀_pos hg with ⟨j, rfl⟩ | ⟨j, rfl⟩
        · rw [lv_recv]; decide
        · exact Nat.one_pos)
  · rw [MayWait_zero]; iintro -; iempintro

theorem mayWait_bar (c : Dev nD) : (levAts L lv : sProp 𝕄) ⊢ MayWait (c : Thread nD τ) (.reg barS) () (owedR c 0) :=
  MayOwe.of_cut (L := L) (lev := lv) 1 (fun p hp => by rw [Finset.mem_singleton.mp hp, L_tc]; exact Finset.mem_singleton_self _)
    (fun g u hg => by obtain ⟨j, -, rfl⟩ := tally_pos _ _ _ hg; exact Finset.mem_singleton_self _)
    (fun p hp => by rw [Finset.mem_singleton.mp hp]; exact le_rfl)
    (fun g u hg => by obtain ⟨j, -, rfl⟩ := tally_pos _ _ _ hg; rw [lv_recv]; decide)

end Cert.Attn

end
-- ==== Proof.Steps.lean ====
/-
What the body's accesses read and write, and the body's remote steps, each stated once at a step number.
-/
module

public import proofs.«01_k».proof.Proof.Protocol

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## What the accesses of a slot read and write -/

section Contents

variable {off : Fin 4 → ℕ} (s : Dev nD)

theorem half_subset (b : ℕ) (h : off = ![s.val, b, 0, 0]) (inb) :
    (kvM.access (Rect.unit (s := S8x2x512x128) off S1x1x512x128.size inb) : View sig .tc _ _ _).set ⊆ slotSet s := by
  refine (View.set_slice_whole cc0_scratch0 _).subset.trans fun i hi => ?_
  subst h
  have h0 := Rect.mem_set_unit.mp hi 0
  have h1 : s.val ≤ (i 0).val := h0.1
  have h2 : (i 0).val < s.val + 1 := h0.2
  exact mem_slotSet.mpr (by omega)

theorem half_on (b : ℕ) (h : off = ![s.val, b, 0, 0]) (inb) :
    (kvM : Memref sig .tc .vmem S8x2x512x128 .i8).view.setOn (Rect.unit (s := S8x2x512x128) off S1x1x512x128.size inb).toLoadRect.set ⊆ slotSet s :=
  fun i hi => half_subset s b h inb (by
    rw [show (kvM.access (Rect.unit (s := S8x2x512x128) off S1x1x512x128.size inb) : View sig .tc _ _ _).set = _ from View.set_slice _ _]
    exact hi)

theorem emb_half (b : ℕ) (h : off = ![s.val, b, 0, 0]) (inb) (x : S1x1x512x128.Idx) (a : Fin 4) :
    ((Rect.unit (s := S8x2x512x128) off S1x1x512x128.size inb).emb x a).val = (![s.val, b, 0, 0] : Fin 4 → ℕ) a + (x a).val := by
  subst h
  rw [Rect.emb_apply]; exact congrArg _ (Nat.one_mul _)

theorem inner_emb (b : ℕ) (h : off = ![s.val, b, 0, 0]) (inb) (x : S1x1x512x128.Idx) :
    inner ((Rect.unit (s := S8x2x512x128) off S1x1x512x128.size inb).emb x) = x := by
  funext a
  have e := emb_half s b h inb x a
  fin_cases a
  · exact Subsingleton.elim (α := Fin 1) _ _
  · exact Subsingleton.elim (α := Fin 1) _ _
  · exact Fin.ext (e.trans (Nat.zero_add _))
  · exact Fin.ext (e.trans (Nat.zero_add _))

theorem KV_half_k (h : off = ![s.val, 0, 0, 0]) (inb) (x : S1x1x512x128.Idx) :
    KV m ρ ((Rect.unit (s := S8x2x512x128) off S1x1x512x128.size inb).emb x) = kslot m ρ s x := by
  have e0 : ((Rect.unit (s := S8x2x512x128) off S1x1x512x128.size inb).emb x 0 : Fin 8) = s := by
    refine Fin.ext ((emb_half s 0 h inb x 0).trans ?_)
    have : (x 0).val < 1 := (x 0).isLt
    show s.val + (x 0).val = s.val
    omega
  have e1 : ((Rect.unit (s := S8x2x512x128) off S1x1x512x128.size inb).emb x 1).val = 0 := by
    refine (emb_half s 0 h inb x 1).trans ?_
    have : (x 1).val < 1 := (x 1).isLt
    show 0 + (x 1).val = 0
    omega
  refine (if_pos e1).trans ?_
  rw [inner_emb s 0 h inb x, e0]

theorem KV_half_v (h : off = ![s.val, 1, 0, 0]) (inb) (x : S1x1x512x128.Idx) :
    KV m ρ ((Rect.unit (s := S8x2x512x128) off S1x1x512x128.size inb).emb x) = vslot m ρ s x := by
  have e0 : ((Rect.unit (s := S8x2x512x128) off S1x1x512x128.size inb).emb x 0 : Fin 8) = s := by
    refine Fin.ext ((emb_half s 1 h inb x 0).trans ?_)
    have : (x 0).val < 1 := (x 0).isLt
    show s.val + (x 0).val = s.val
    omega
  have e1 : ((Rect.unit (s := S8x2x512x128) off S1x1x512x128.size inb).emb x 1).val ≠ 0 := by
    have e := emb_half s 1 h inb x 1
    have e' : (![s.val, 1, 0, 0] : Fin 4 → ℕ) 1 = 1 := rfl
    rw [e'] at e; omega
  refine (if_neg e1).trans ?_
  rw [inner_emb s 1 h inb x, e0]

/-- The key half of slot `s` reads device `s`'s rounded keys, the value half its rounded values. -/
theorem read_k (h : off = ![s.val, 0, 0, 0]) (inb) :
    kvM.view.readAt (Elt F) (Rect.unit (s := S8x2x512x128) off S1x1x512x128.size inb).toLoadRect (KV m ρ) = kslot m ρ s :=
  funext fun x => KV_half_k m ρ s h inb x
theorem read_v (h : off = ![s.val, 1, 0, 0]) (inb) :
    kvM.view.readAt (Elt F) (Rect.unit (s := S8x2x512x128) off S1x1x512x128.size inb).toLoadRect (KV m ρ) = vslot m ρ s :=
  funext fun x => KV_half_v m ρ s h inb x

/-- The two stores of a device, over any contents, leave the final contents on its slot. -/
theorem write_own {off' : Fin 4 → ℕ} (h : off = ![s.val, 0, 0, 0]) (h' : off' = ![s.val, 1, 0, 0]) (inb) (inb')
    (f : (cc0_scratch0 : Ref sig .tc).ty.Contents (Elt F)) (i : S8x2x512x128.Idx) (hi : i ∈ slotSet s) :
    (kvM.access (Rect.unit (s := S8x2x512x128) off' S1x1x512x128.size inb') : View sig .tc _ _ _).write (Elt F)
      ((kvM.access (Rect.unit (s := S8x2x512x128) off S1x1x512x128.size inb) : View sig .tc _ _ _).write (Elt F) f (kslot m ρ s) Finset.univ)
      (vslot m ρ s) Finset.univ i = KV m ρ i := by
  have h0 := mem_slotSet.mp hi
  have hr (o : Fin 4 → ℕ) (b : ℕ) (ho : o = ![s.val, b, 0, 0]) (inbo) :
      i ∈ (kvM.access (Rect.unit (s := S8x2x512x128) o S1x1x512x128.size inbo) : View sig .tc _ _ _).set ↔ (i 1).val = b := by
    subst ho
    refine (iff_of_eq (congrArg (i ∈ ·) (View.set_slice_whole cc0_scratch0 _))).trans (Rect.mem_set_unit.trans ?_)
    constructor
    · intro h
      have h1 : b ≤ (i 1).val := (h 1).1
      have h2 : (i 1).val < b + 1 := (h 1).2
      omega
    · intro hb a
      fin_cases a
      · show s.val ≤ (i 0).val ∧ (i 0).val < s.val + 1
        omega
      · show b ≤ (i 1).val ∧ (i 1).val < b + 1
        omega
      · exact ⟨Nat.zero_le _, (i 2).isLt.trans_eq (by rfl)⟩
      · exact ⟨Nat.zero_le _, (i 3).isLt.trans_eq (by rfl)⟩
  have h2 : (i 1).val < 2 := (i 1).isLt
  by_cases hb : (i 1).val = 1
  · obtain ⟨x, -, e⟩ := Finset.mem_map.mp ((hr off' 1 h' inb').mpr hb)
    rw [← e, View.write_emb_of_mem _ _ (Finset.mem_univ x)]
    exact (KV_half_v m ρ s h' inb' x).symm
  · rw [View.write_of_not_mem _ _ _ fun hc => hb ((hr off' 1 h' inb').mp hc)]
    obtain ⟨x, -, e⟩ := Finset.mem_map.mp ((hr off 0 h inb).mpr (by omega))
    rw [← e, View.write_emb_of_mem _ _ (Finset.mem_univ x)]
    exact (KV_half_k m ρ s h inb x).symm

/-- What a copy of slot `s` leaves in its destination: the source's contents there. -/
theorem write_copy (fd g : (cc0_scratch0 : Ref sig .tc).ty.Contents (Elt F)) (i : S8x2x512x128.Idx) (hi : i ∈ (slotM s).view.set) :
    (slotM s).view.write (Elt F) fd ((slotM s).view.read (Elt F) g) Finset.univ i = g i := by
  obtain ⟨x, -, rfl⟩ := Finset.mem_map.mp hi
  rw [View.write_emb_of_mem _ _ (Finset.mem_univ x), View.read_apply]; rfl

end Contents

/-! ## The records every device keeps -/

/-- Every cell's invariant, and that its first round is open. -/
def records (K : Dev nD × KI → ℕ) : sProp 𝕄 :=
  iprop((bigSep Finset.univ fun ck : Dev nD × KI => cellInv ER (Rd m ρ) (K ck) (kcell ck))
    ∗ bigSep Finset.univ fun ck : Dev nD × KI => reached ER (kcell ck) 0)
instance records_persistent (K : Dev nD × KI → ℕ) : BI.Persistent (records (F := F) m ρ K) := by unfold records; infer_instance

theorem inv_at (K : Dev nD × KI → ℕ) (ck : Dev nD × KI) : records (F := F) m ρ K ⊢ cellInv ER (Rd m ρ) (K ck) (kcell ck) := by
  unfold records
  exact sep_elim_left.trans (bigSep_elim (Φ := fun ck => cellInv ER (Rd m ρ) (K ck) (kcell ck)) (Finset.mem_univ ck))
theorem reached_at (K : Dev nD × KI → ℕ) (ck : Dev nD × KI) : records (F := F) m ρ K ⊢ reached ER (kcell ck) 0 := by
  unfold records
  exact sep_elim_right.trans (bigSep_elim (Φ := fun ck => reached ER (kcell ck) 0) (Finset.mem_univ ck))

/-! ## One step of the body at a time

Each step is stated once, at step number `n`; what the later steps need is one conjunction over the steps left. -/

/-- Device `c` owes `O`. -/
def owing (c : Dev nD) (O : CellTallies nD τ sig Unit) : sProp 𝕄 := iprop(∃ W : Waits sig Unit, owes (c : Thread nD τ) O W)

/-- The signals from step `n` on: the right to pay each, and the slot it hands over. -/
def sigs (c : Dev nD) (n : ℕ) : sProp 𝕄 :=
  bigSep (rangeSet 7 n 7) fun j => iprop(dutyTok ER (barCell (pl c j)) 0 j.rev ∗ slotAny (F := F) c (pl c j))

/-- The copies from step `n` on, each with the right to pay at both ends and its destination, and the credit of the
    copies already started. -/
def sends (c : Dev nD) (n : ℕ) : sProp 𝕄 :=
  iprop((bigSep (rangeSet 7 n 7) fun j => iprop((dutyTok ER (sendCell c j) 0 0 ∗ dutyTok ER (recvCell (pl c j) c) 0 0) ∗ slotAny (F := F) (pl c j) c))
    ∗ bigSep (rangeSet 7 0 n) fun j => cred (tallyAt (sendCell c j) () N))

/-- The receives: those below `n` outstanding, the others done, their slots held. -/
def recvs (c : Dev nD) (n : ℕ) : sProp 𝕄 :=
  iprop((bigSep (rangeSet 7 0 n) fun j => iprop(cred (tallyAt (recvCell c (pl c j)) () N) ∗ atPos ER (recvCell c (pl c j)) 0 ∅ 0))
    ∗ bigSep (rangeSet 7 n 7) fun j => iprop(semVal (recvCell c (pl c j)) 0 ∗ slotPts m ρ c (pl c j) fullShare))

/-- The waits for the copies' sources: from `n` on outstanding, the others done, the lent shares back. -/
def backs (c : Dev nD) (n : ℕ) : sProp 𝕄 :=
  iprop((bigSep (rangeSet 7 n 7) fun j => iprop(cred (tallyAt (sendCell c j) () N) ∗ atPos ER (sendCell c j) 0 ∅ 0))
    ∗ bigSep (rangeSet 7 0 n) fun j => iprop(semVal (sendCell c j) 0 ∗ slotPts m ρ c c (lend j.val)))

section Steps

variable (K : Dev nD × KI → ℕ) (c : Dev nD) {α : Type} {Q : α → sProp (MT nD τ sig Unit (Elt F) ℕ UU ℕ)} {k : PUnit → Prog (TpuEff nD τ sig (Elt F) Λ₀ .tc) α}

theorem range_snoc (Φ : Fin 7 → sProp 𝕄) (n : ℕ) (h : n < 7) :
    bigSep (rangeSet 7 0 (n + 1)) Φ = iprop(Φ ⟨n, h⟩ ∗ bigSep (rangeSet 7 0 n) Φ) := by
  rw [bigSep_rangeSet_last (Nat.succ_pos n) h]; rfl

theorem bigSep_pick {S : Finset (Fin 7)} {j : Fin 7} (h : j ∈ S) (Φ : Fin 7 → sProp 𝕄) : bigSep S Φ = iprop(Φ j ∗ bigSep (S.erase j) Φ) :=
  BI.bigSep_erase h

/-- The signal of step `n`. -/
theorem step_signal (n n' : ℕ) (hn' : n' = n + 1) (h : n < 7) {dst : Thread nD τ} {sem : Sem sig} {x : ℕ}
    (hdst : dst = (pl c ⟨n, h⟩ : Thread nD τ)) (hsem : sem = barS) (hx : x = 1) :
    iprop(records m ρ K ∗ sigs c n ∗ owing c (owedR c 0 + owedB c n))
      ⊢ iprop(((sigs c n' ∗ owing c (owedR c 0 + owedB c n')) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal dst sem x) k) Q) := by
  subst hn' hdst hsem hx
  unfold sigs owing
  rw [bigSep_rangeSet_head h h]
  iintro ⟨#HR, ⟨⟨Ht, Hs⟩, Hrest⟩, ⟨%W, HO⟩⟩ Hk
  iapply (Rounds.wp_signal 𝒱₀ ER (Rd m ρ) (c : Thread nD τ) none (dst := (pl c ⟨n, h⟩ : Thread nD τ)) (sem := barS) (d := Fin.rev ⟨n, h⟩) (κ := K (pl c ⟨n, h⟩, .inl ()))
    (by rw [duties_bar]; exact Finset.mem_univ _) (amount_bar m ρ _ _) () (O₀ := owedR c 0 + owedB c n) (owedR c 0 + owedB c (n + 1)) (by rw [owedB_step c n h, add_assoc])) $$ [HO Ht Hs]
  · isplitr; · iapply (inv_at m ρ K (pl c ⟨n, h⟩, .inl ())); iexact HR
    isplitl [HO]; · iexact HO
    isplitl [Ht]; · iexact Ht
    isplitl [Hs]
    · rw [payload_bar, pl_rev]; iexact Hs
    · iapply (reached_at m ρ K (pl c ⟨n, h⟩, .inl ())); iexact HR
  iintro HO
  iapply Hk
  isplitl [Hrest]; · iexact Hrest
  iexists W; iexact HO

/-- The wait for the seven signals. -/
theorem step_bar {sem : Sem sig} {x : ℕ} (hsem : sem = barS) (hx : x = 7) :
    iprop(records m ρ K ∗ levAts L lv ∗ cred (tallyAt (barCell c) () 7) ∗ atPos ER (barCell c) 0 ∅ 0 ∗ owing c (owedR c 0))
      ⊢ iprop(((semVal (barCell c) 0 ∗ (bigSep Finset.univ fun j : Fin 7 => slotAny (F := F) (pl c j) c) ∗ owing c (owedR c 0))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sem x) k) Q) := by
  subst hsem hx
  unfold owing
  iintro ⟨#HR, #Hlev, Hc, Hat, ⟨%W, HO⟩⟩ Hk
  iapply (Rounds.wp_wait_rest_token 𝒱₀ ER (Rd m ρ) (c : Thread nD τ) none (κ := K (c, .inl ()))
      (wpE_semWait_eq 𝒱₀ (c : Thread nD τ) none Set.univ) (Set.mem_univ _) () (O := owedR c 0) (W := W) (R := 0) (m := 0) (T := ∅)
      (by rw [expect_bar])) $$ [Hc HO Hat]
  · isplitr; · iapply (inv_at m ρ K (c, .inl ())); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [Hat] with Hz
  · isplitr; · iapply (inv_at m ρ K (c, .inl ())); iexact HR
    iexact Hat
  iapply Hk
  isplitl [Hz]; · iexact Hz
  isplitl [Hp]; · iexact Hp
  iexists _; iexact HO

/-- The copy of step `n`: it borrows a share of the own slot and writes the slot on the destination. -/
theorem step_send (n n' : ℕ) (hn' : n' = n + 1) (h : n < 7) {dst : Dev nD} {sS sV : DmaSem sig}
    (hdst : dst = pl c ⟨n, h⟩) (hsS : sS = sendS ⟨n, h⟩) (hsV : sV = recvS c)
    {hsc : (slotM c : Memref sig (Dev.tc dst : Thread nD τ).2.kind .vmem S2x512x128 .i8).view.ref.isScScratch = false}
    {hsrc : (slotM c).view.WordExact} {hdstW : (slotM c).view.WordExact}
    {htyp : DmaTarget.Typed .vmem (.dma sV) (.remote (Dev.tc dst : Thread nD τ) (slotM c) (.dma sS) hsc)} :
    iprop(records m ρ K ∗ sends c n ∗ slotPts m ρ c c (keep n) ∗ owing c (owedR c n))
      ⊢ iprop(((sends c n' ∗ slotPts m ρ c c (keep n') ∗ owing c (owedR c n')) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc dst : Thread nD τ) (slotM c) (.dma sS) hsc) (.dma sV) hsrc hdstW htyp) k) Q) := by
  subst hn' hdst hsS hsV
  unfold sends owing
  rw [bigSep_rangeSet_head h h, range_snoc _ n h]
  iintro ⟨#HR, ⟨⟨⟨⟨HtS, HtV⟩, Hd⟩, Hrest⟩, Hdone⟩, Hown, ⟨%W, HO⟩⟩ Hk
  ihave Hsp := (slot_split m ρ c n).1 $$ Hown
  icases Hsp with ⟨Hl, Hkeep⟩
  unfold slotAny
  icases Hd with ⟨%fd, Hd⟩
  iapply (Rounds.wp_send_pointsTo 𝒱₀ ER (Rd m ρ) (c : Thread nD τ) none (κ₁ := K (c, .inr (.inl ⟨n, h⟩))) (κ₂ := K (pl c ⟨n, h⟩, .inr (.inr c)))
    (c' := (pl c ⟨n, h⟩ : Thread nD τ)) (src := (slotM c : Memref sig .tc .vmem S2x512x128 .i8)) (dst := (slotM c : Memref sig .tc .vmem S2x512x128 .i8)) (q := lend n) (fs := KV m ρ)
    (r₁ := 0) (r₂ := 0) (d₁ := 0) (d₂ := 0) (fd := fd)
    (by rw [duties_send]; exact Finset.mem_singleton_self _) (by rw [duties_recv m ρ _ (pl_ne c ⟨n, h⟩).symm]; exact Finset.mem_singleton_self _)
    () () N rfl (amount_send m ρ c ⟨n, h⟩ 0) (amount_recv m ρ (pl c ⟨n, h⟩) c 0) (owedR c (n + 1)) (owedR_step c n h) (W := W)
    (by rw [payload_send]; unfold slotPts; rw [slotM_set])
    (by
      rw [payload_recv]; unfold slotPts
      rw [← slotM_set]
      exact Entails.of_eq (pointsTo_congr fun i hi => write_copy c fd (KV m ρ) i hi))) $$ [Hl Hd HO HtS HtV]
  · isplitr; · iapply (inv_at m ρ K (c, .inr (.inl ⟨n, h⟩))); iexact HR
    isplitr; · iapply (inv_at m ρ K (pl c ⟨n, h⟩, .inr (.inr c))); iexact HR
    isplitl [Hl]; · unfold slotPts; rw [slotM_set]; iexact Hl
    isplitl [Hd]; · rw [slotM_set]; iexact Hd
    isplitl [HO]; · iexact HO
    isplitl [HtS]; · iexact HtS
    isplitr; · iapply (reached_at m ρ K (c, .inr (.inl ⟨n, h⟩))); iexact HR
    isplitl [HtV]; · iexact HtV
    iapply (reached_at m ρ K (pl c ⟨n, h⟩, .inr (.inr c))); iexact HR
  iintro ⟨Hc, HO⟩
  iapply Hk
  isplitl [Hrest Hdone Hc]
  · isplitl [Hrest]; · iexact Hrest
    isplitl [Hc] <;> iassumption
  isplitl [Hkeep]; · iexact Hkeep
  iexists W; iexact HO

/-- Copies of a slot's size all count the same. -/
theorem credit_eq (dst : Memref sig .tc .vmem S2x512x128 .i8) : dst.view.dmaCredit = N := rfl

/-- A wait on a DMA cell that completes its one round. -/
theorem step_wait (sm : DmaSem sig) (ck : Dev nD × KI) (hck : kcell ck = ((c : Thread nD τ), .dma sm)) (P : sProp 𝕄)
    (hexp : (Rd (F := F) m ρ).expect ((c : Thread nD τ), .dma sm) 0 = N)
    (hrest : bigSep ((Rd (F := F) m ρ).duties ((c : Thread nD τ), .dma sm) 0 \ ∅) (fun d => (Rd (F := F) m ρ).payload ((c : Thread nD τ), .dma sm) 0 d) = P)
    {src dst : Memref sig .tc .vmem S2x512x128 .i8} {h1 h2} :
    iprop(records m ρ K ∗ cred (tallyAt ((c : Thread nD τ), .dma sm) () N) ∗ atPos ER ((c : Thread nD τ), .dma sm) 0 ∅ 0 ∗ owing c 0)
      ⊢ iprop(((semVal ((c : Thread nD τ), .dma sm) 0 ∗ P ∗ owing c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  subst hrest
  unfold owing
  iintro ⟨#HR, Hc, Hat, ⟨%W, HO⟩⟩ Hk
  ihave #HI := (inv_at m ρ K ck) $$ HR
  rw [hck]
  iapply (Rounds.wp_wait_rest_token 𝒱₀ ER (Rd m ρ) (c : Thread nD τ) none (κ := K ck)
      (wpE_waitDma2_eq 𝒱₀ (c : Thread nD τ) none Set.univ) (Set.mem_univ _) () (O := 0) (W := W) (R := 0) (m := 0) (T := ∅)
      (by rw [hexp, Nat.zero_add])) $$ [Hc HO Hat]
  · isplitr; · iexact HI
    isplitl [Hc]; · rw [credit_eq dst]; iexact Hc
    isplitl [HO]; · iexact HO
    isplitr; · rw [MayWait_zero]; iempintro
    iexact Hat
  iintro ⟨HO, Hat, -, Hpay⟩
  imod (Rounds.cell_close ER (Rd m ρ) (Set.mem_univ (K ck)) (fun h => h) (R := 0 + 1) (duties_later m ρ _)) $$ [Hat] with Hz
  · isplitr; · iexact HI
    iexact Hat
  iapply Hk
  isplitl [Hz]; · iexact Hz
  isplitl [Hpay]; · iexact Hpay
  iexists _; iexact HO

/-- The receive of device `pl c n`'s slot. -/
theorem step_recv (n n' : ℕ) (hn' : n' = n + 1) (h : n < 7) {sm : DmaSem sig} (hsm : sm = recvS (pl c ⟨n, h⟩))
    {src dst : Memref sig .tc .vmem S2x512x128 .i8} {h1 h2} :
    iprop(records m ρ K ∗ recvs m ρ c n' ∗ owing c 0)
      ⊢ iprop(((recvs m ρ c n ∗ owing c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  subst hn' hsm
  unfold recvs
  rw [range_snoc _ n h, bigSep_rangeSet_head h h]
  iintro ⟨#HR, ⟨⟨⟨Hc, Hat⟩, Hrest⟩, Hdone⟩, HO⟩ Hk
  iapply (step_wait m ρ K c (recvS (pl c ⟨n, h⟩)) (c, .inr (.inr (pl c ⟨n, h⟩))) rfl _ (expect_recv m ρ c (pl_ne c _)) (rest_recv m ρ c (pl_ne c _))) $$ [Hc Hat HO]
  · isplitr; · iexact HR
    isplitl [Hc]; · iexact Hc
    isplitl [Hat] <;> iassumption
  iintro ⟨Hz, Hp, HO⟩
  iapply Hk
  isplitl [Hrest Hdone Hz Hp]
  · isplitl [Hrest]; · iexact Hrest
    isplitl [Hz Hp]
    · isplitl [Hz] <;> iassumption
    iexact Hdone
  iexact HO

/-- The wait for the source of copy `n`. -/
theorem step_back (n n' : ℕ) (hn' : n' = n + 1) (h : n < 7) {sm : DmaSem sig} (hsm : sm = sendS ⟨n, h⟩)
    {src dst : Memref sig .tc .vmem S2x512x128 .i8} {h1 h2} :
    iprop(records m ρ K ∗ backs m ρ c n ∗ owing c 0)
      ⊢ iprop(((backs m ρ c n' ∗ owing c 0) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  subst hn' hsm
  unfold backs
  rw [range_snoc _ n h, bigSep_rangeSet_head h h]
  iintro ⟨#HR, ⟨⟨⟨Hc, Hat⟩, Hrest⟩, Hdone⟩, HO⟩ Hk
  iapply (step_wait m ρ K c (sendS ⟨n, h⟩) (c, .inr (.inl ⟨n, h⟩)) rfl _ (expect_send m ρ c _) (rest_send m ρ c _)) $$ [Hc Hat HO]
  · isplitr; · iexact HR
    isplitl [Hc]; · iexact Hc
    isplitl [Hat] <;> iassumption
  iintro ⟨Hz, Hp, HO⟩
  iapply Hk
  isplitl [Hrest Hdone Hz Hp]
  · isplitl [Hrest]; · iexact Hrest
    isplitl [Hz Hp]
    · isplitl [Hz] <;> iassumption
    iexact Hdone
  iexact HO

variable {off : Fin 4 → ℕ} {inb : ∀ a, off a + S1x1x512x128.size a ≤ S8x2x512x128.size a}
  {kx : IVec S1x1x512x128 8 → Prog (TpuEff nD τ sig (Elt F) Λ₀ .tc) α}

/-- A load of a half of a slot held at the final contents. -/
theorem load_half (s : Dev nD) (q : PosShare TreeShare) (b : ℕ) (hoff : off = ![s.val, b, 0, 0]) (X : IVec S1x1x512x128 8)
    (hX : kvM.view.readAt (Elt F) (Rect.unit (s := S8x2x512x128) off S1x1x512x128.size inb).toLoadRect (KV m ρ) = X)
    {hl : kvM.view.LoadsAt (Rect.unit (s := S8x2x512x128) off S1x1x512x128.size inb).toLoadRect} :
    slotPts m ρ c s q
      ⊢ iprop((slotPts m ρ c s q -∗ wp frame (wpE (defs₀ (F := F)) 𝒱₀ (c : Thread nD τ) none) Set.univ (kx X) Q)
          -∗ wp frame (wpE (defs₀ (F := F)) 𝒱₀ (c : Thread nD τ) none) Set.univ
              (.op (.load kvM (Rect.unit (s := S8x2x512x128) off S1x1x512x128.size inb).toLoadRect hl) kx) Q) := by
  subst hX
  unfold slotPts
  iintro Hs Hk
  iapply (wp_load 𝒱₀ (c : Thread nD τ) none Set.univ (m := kvM) (half_on s b hoff inb)) $$ Hs
  iexact Hk

/-- A store to a half of a slot held whole. -/
theorem store_half (s : Dev nD) (b : ℕ) (hoff : off = ![s.val, b, 0, 0]) (f : Buf (Elt F) ((c : Thread nD τ).loc cc0_scratch0)) {w : IVec S1x1x512x128 8}
    {hx : (kvM.access (Rect.unit (s := S8x2x512x128) off S1x1x512x128.size inb) : View sig .tc _ _ _).Stores Finset.univ} {hm} :
    (((c : Thread nD τ).loc cc0_scratch0) ↦[slotSet s]{fullShare} f)
      ⊢ iprop(((((c : Thread nD τ).loc cc0_scratch0) ↦[slotSet s]{fullShare}
              ((kvM.access (Rect.unit (s := S8x2x512x128) off S1x1x512x128.size inb) : View sig .tc _ _ _).write (Elt F) f w Finset.univ))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store kvM (Rect.unit (s := S8x2x512x128) off S1x1x512x128.size inb) w Finset.univ hx hm) k) Q) := by
  iintro Hs Hk
  iapply (wp_store 𝒱₀ (c : Thread nD τ) none Set.univ (m := kvM) (r := Rect.unit (s := S8x2x512x128) off S1x1x512x128.size inb) (w := w) (Mk := Finset.univ)
    (S := slotSet s) (f := f) (half_subset s b hoff inb)) $$ Hs
  iexact Hk

/-- A load of a half of slot `pl c j` after its receive. -/
theorem load_recv (n : ℕ) (j : Fin 7) (hj : n ≤ j.val) (b : ℕ) (hoff : off = ![(pl c j).val, b, 0, 0]) (X : IVec S1x1x512x128 8)
    (hX : kvM.view.readAt (Elt F) (Rect.unit (s := S8x2x512x128) off S1x1x512x128.size inb).toLoadRect (KV m ρ) = X)
    {hl : kvM.view.LoadsAt (Rect.unit (s := S8x2x512x128) off S1x1x512x128.size inb).toLoadRect} :
    recvs m ρ c n
      ⊢ iprop((recvs m ρ c n -∗ wp frame (wpE (defs₀ (F := F)) 𝒱₀ (c : Thread nD τ) none) Set.univ (kx X) Q)
          -∗ wp frame (wpE (defs₀ (F := F)) 𝒱₀ (c : Thread nD τ) none) Set.univ
              (.op (.load kvM (Rect.unit (s := S8x2x512x128) off S1x1x512x128.size inb).toLoadRect hl) kx) Q) := by
  unfold recvs
  rw [bigSep_pick ((mem_rangeSet n 7 j).mpr ⟨hj, j.isLt⟩)]
  iintro ⟨Hout, ⟨Hz, Hs⟩, Hrest⟩ Hk
  iapply (load_half m ρ c (pl c j) fullShare b hoff X hX) $$ Hs
  iintro Hs
  iapply Hk
  isplitl [Hout]; · iexact Hout
  isplitl [Hz Hs]
  · isplitl [Hz] <;> iassumption
  iexact Hrest

end Steps

end Cert.Attn

end
-- ==== Proof.Body.lean ====
/-
The kernel's body on one device, at a symbolic device: from its launch resources to the written output.
-/
module

public import proofs.«01_k».proof.Proof.Steps

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

theorem cfg0_N : cfg0.N = 1 := by decide
def t₀ : Fin cfg0.N := ⟨0, by rw [cfg0_N]; decide⟩
theorem fin_N (t : Fin cfg0.N) : t = t₀ := by obtain ⟨t, ht⟩ := t; have := cfg0_N; exact Fin.ext (by simp only [t₀]; omega)

/-- What device `c` writes: its own block of scores first, then the blocks of the devices 7, 6, …, 1 places after it. -/
def outAt (c : Dev nD) : (cc0_stg3_0 : Ref sig .tc).ty.Contents (Elt F) :=
  let ks : Fin 7 → IVec S1x1x512x128 8 := fun j => kslot m ρ (pl c j)
  let vs : Fin 7 → IVec S1x1x512x128 8 := fun j => vslot m ρ (pl c j)
  let q := k0_pay4 (qstg m ρ c)
  let l₀ := k0_pay6 (qstg m ρ c) (kslot m ρ c)
  let a₀ := k0_pay7 (qstg m ρ c) (kslot m ρ c) (vslot m ρ c)
  let l₁ := k0_pay9 q l₀ (ks 6)
  let a₁ := k0_pay10 q a₀ (ks 6) (vs 6)
  let p₂ := k0_pay12 q (ks 5)
  let l₃ := k0_pay14 q l₁ p₂ (ks 4)
  let a₃ := k0_pay15 q a₁ (k0_pay11 (vs 5)) p₂ (ks 4) (vs 4)
  let l₄ := k0_pay17 q l₃ (ks 3)
  let a₄ := k0_pay18 q a₃ (ks 3) (vs 3)
  let l₅ := k0_pay20 q l₄ (ks 2)
  let a₅ := k0_pay21 q a₄ (ks 2) (vs 2)
  let k₆ := k0_pay22 (ks 1)
  k0_pay29 (k0_pay24 q a₅ k₆ (vs 1)) (k0_pay25 (vs 0)) (k0_pay27 q l₅ k₆ (ks 0)) (k0_pay28 q (ks 0))

/-- Where a device stands on its cells, and the payments it makes. -/
def pos (c : Dev nD) : sProp 𝕄 :=
  iprop(atPos ER (barCell c) 0 ∅ 0 ∗ (bigSep Finset.univ fun j : Fin 7 => atPos ER (sendCell c j) 0 ∅ 0)
    ∗ bigSep Finset.univ fun s : Dev nD => atPos ER (recvCell c s) 0 ∅ 0)
def payToks (c : Dev nD) : sProp 𝕄 :=
  iprop((bigSep Finset.univ fun j : Fin 7 => dutyTok ER (barCell (pl c j)) 0 j.rev)
    ∗ bigSep Finset.univ fun j : Fin 7 => iprop(dutyTok ER (sendCell c j) 0 0 ∗ dutyTok ER (recvCell (pl c j) c) 0 0))
def creds (c : Dev nD) : sProp 𝕄 :=
  iprop(cred (tallyAt (barCell c) () 7) ∗ bigSep Finset.univ fun j : Fin 7 => cred (tallyAt (recvCell c (pl c j)) () N))
def start (c : Dev nD) : sProp 𝕄 := iprop((∃ K, records m ρ K ∗ pos c ∗ payToks c) ∗ creds c ∗ levAts L lv)

def scrPts (c : Dev nD) (f : Buf (Elt F) ((c : Thread nD τ).loc cc0_scratch0)) : sProp 𝕄 := ((c : Thread nD τ).loc cc0_scratch0) ↦{fullShare} f

def Φ₀ (c : Dev nD) : sProp 𝕄 := iprop(start m ρ c ∗ ∃ f, scrPts c f)
def Φ₁ (c : Dev nD) : sProp 𝕄 :=
  iprop(scrPts c (KV m ρ) ∗ semVal (barCell c) 0 ∗ (bigSep Finset.univ fun j : Fin 7 => semVal (sendCell c j) 0)
    ∗ bigSep Finset.univ fun s : Dev nD => semVal (recvCell c s) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_in (w : Fin cfg0.W) (hw : w.val < 3) (t : Fin cfg0.N) : (cfg0.win w).fetch t = true := by
  rw [fin_N t]; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## Entering and leaving the body -/

/-- One conjunct a device is one for `c` itself and one for each of the seven others. -/
theorem ring_split (c : Dev nD) (Φ : Dev nD → sProp 𝕄) :
    bigSep Finset.univ Φ = iprop(Φ c ∗ bigSep Finset.univ fun j : Fin 7 => Φ (pl c j)) := by
  have hu : (Finset.univ : Finset (Dev nD)) = insert c (Finset.univ.map ⟨pl c, pl_inj c⟩) := by revert c; decide
  rw [hu, BI.bigSep_insert (by
    intro h; obtain ⟨j, -, e⟩ := Finset.mem_map.mp h; exact pl_ne c j e), bigSep_map]
  rfl

theorem slots_eq (c : Dev nD) (f : Buf (Elt F) ((c : Thread nD τ).loc cc0_scratch0)) :
   (((c : Thread nD τ).loc cc0_scratch0) ↦[(Finset.univ : Finset (Dev nD)).biUnion slotSet]{fullShare} f : sProp 𝕄) = bigSep Finset.univ fun s : Dev nD => ((c : Thread nD τ).loc cc0_scratch0) ↦[slotSet s]{fullShare} f :=
  pointsTo_biUnion (ℓ := (c : Thread nD τ).loc cc0_scratch0) (q := fullShare) (f := f) (Finset.univ : Finset (Dev nD)) slotSet
    fun s _ t _ h => slot_disjoint h
theorem scr_eq (c : Dev nD) (f : Buf (Elt F) ((c : Thread nD τ).loc cc0_scratch0)) : scrPts (F := F) c f = (((c : Thread nD τ).loc cc0_scratch0) ↦[(Finset.univ : Finset (Dev nD)).biUnion slotSet]{fullShare} f : sProp 𝕄) := by
  rw [slot_cover]; rfl
theorem scr_split (c : Dev nD) (f : Buf (Elt F) ((c : Thread nD τ).loc cc0_scratch0)) :
    scrPts (F := F) c f = bigSep Finset.univ fun s : Dev nD => ((c : Thread nD τ).loc cc0_scratch0) ↦[slotSet s]{fullShare} f :=
  (scr_eq c f).trans (slots_eq c f)

/-- The shares lent to the copies join what was kept. -/
theorem lends_join (c : Dev nD) : ∀ n, n ≤ 7 →
    iprop((bigSep (rangeSet 7 0 n) fun j => slotPts (F := F) m ρ c c (lend j.val)) ∗ slotPts m ρ c c (keep n)) ⊢ slotPts m ρ c c fullShare
  | 0, _ => by
    rw [bigSep_rangeSet_empty le_rfl]
    iintro ⟨-, H⟩; iexact H
  | n + 1, h => by
    rw [range_snoc _ n h]
    iintro ⟨⟨Hl, Hr⟩, Hk⟩
    iapply (lends_join c n (Nat.le_of_succ_le h))
    isplitl [Hr]; · iexact Hr
    iapply (slot_split m ρ c n).2
    isplitl [Hl] <;> iassumption

theorem slotAny_intro (c s : Dev nD) (f : Buf (Elt F) ((c : Thread nD τ).loc cc0_scratch0)) :
    (((c : Thread nD τ).loc cc0_scratch0) ↦[slotSet s]{fullShare} f : sProp 𝕄) ⊢ slotAny (F := F) c s := by
  unfold slotAny; iintro H; iexists f; iexact H

/-- What a device starts with, arranged by the body's steps. -/
theorem enter (c : Dev nD) : Φ₀ m ρ c ⊢ iprop(∃ K, records m ρ K ∗ levAts L lv ∗ sigs c 0 ∗ slotAny (F := F) c c
    ∗ cred (tallyAt (barCell c) () 7) ∗ atPos ER (barCell c) 0 ∅ 0
    ∗ (bigSep Finset.univ fun j : Fin 7 => iprop(dutyTok ER (sendCell c j) 0 0 ∗ dutyTok ER (recvCell (pl c j) c) 0 0))
    ∗ (bigSep Finset.univ fun j : Fin 7 => atPos ER (sendCell c j) 0 ∅ 0) ∗ atPos ER (recvCell c c) 0 ∅ 0 ∗ recvs m ρ c 7) := by
  unfold Φ₀ start pos payToks creds sigs recvs
  rw [bigSep_rangeSet_empty le_rfl, rangeSet_univ]
  simp only [bigSep_sep', scr_split, ring_split c]
  iintro ⟨⟨⟨%K, #HR, ⟨HpB, HpS, HpVc, HpV⟩, HtB, HtC⟩, ⟨HcB, HcV⟩, #Hlev⟩, ⟨%f0, Hown, Hslots⟩⟩
  iexists K
  isplitr; · iexact HR
  isplitr; · iexact Hlev
  isplitl [HtB Hslots]
  · isplitl [HtB]; · iexact HtB
    have hs : (bigSep Finset.univ fun j : Fin 7 => (((c : Thread nD τ).loc cc0_scratch0) ↦[slotSet (pl c j)]{fullShare} f0 : sProp 𝕄))
        ⊢ bigSep Finset.univ fun j : Fin 7 => slotAny (F := F) c (pl c j) :=
      bigSep_mono fun j _ => slotAny_intro c (pl c j) f0
    iapply hs; iexact Hslots
  isplitl [Hown]; · iapply (slotAny_intro c c f0); iexact Hown
  isplitl [HcB]; · iexact HcB
  isplitl [HpB]; · iexact HpB
  isplitl [HtC]; · iexact HtC
  isplitl [HpS]; · iexact HpS
  isplitl [HpVc]; · iexact HpVc
  isplitl [HcV HpV]
  · isplitl [HcV] <;> iassumption
  iempintro

theorem sends_intro (c : Dev nD) :
    iprop((bigSep Finset.univ fun j : Fin 7 => iprop(dutyTok ER (sendCell c j) 0 0 ∗ dutyTok ER (recvCell (pl c j) c) 0 0))
        ∗ bigSep Finset.univ fun j : Fin 7 => slotAny (F := F) (pl c j) c) ⊢ sends (F := F) c 0 := by
  unfold sends
  rw [bigSep_rangeSet_empty le_rfl, rangeSet_univ]
  simp only [bigSep_sep']
  iintro ⟨⟨H1, H2⟩, H3⟩
  isplitl [H1 H2 H3]
  · isplitl [H1 H2]
    · isplitl [H1] <;> iassumption
    iexact H3
  iempintro

theorem backs_intro (c : Dev nD) :
    iprop(sends (F := F) c 7 ∗ bigSep Finset.univ fun j : Fin 7 => atPos ER (sendCell c j) 0 ∅ 0) ⊢ backs m ρ c 0 := by
  unfold sends backs
  rw [bigSep_rangeSet_empty le_rfl, bigSep_rangeSet_empty le_rfl, rangeSet_univ]
  simp only [bigSep_sep']
  iintro ⟨⟨-, H1⟩, H2⟩
  isplitl [H1 H2]
  · isplitl [H1] <;> iassumption
  iempintro

theorem own_stored (c : Dev nD) (inb) (inb') (f : (cc0_scratch0 : Ref sig .tc).ty.Contents (Elt F)) :
    (((c : Thread nD τ).loc cc0_scratch0) ↦[slotSet c]{fullShare}
      ((kvM.access (Rect.unit (s := S8x2x512x128) (k0_off2 c) S1x1x512x128.size inb') : View sig .tc _ _ _).write (Elt F)
        ((kvM.access (Rect.unit (s := S8x2x512x128) (k0_off1 c) S1x1x512x128.size inb) : View sig .tc _ _ _).write (Elt F) f (k0_pay1 (kstg m ρ c)) Finset.univ)
        (k0_pay3 (k0_pay2 (vstg m ρ c))) Finset.univ) : sProp 𝕄) ⊢ slotPts m ρ c c (keep 0) := by
  unfold slotPts keep
  exact Entails.of_eq (pointsTo_congr fun i hi => write_own m ρ c (k0_off1_eq c) (k0_off2_eq c) inb inb' f i hi)

/-- The cell for copies from a device to itself takes none. -/
theorem close_self (K : Dev nD × KI → ℕ) (c : Dev nD) :
    iprop(records m ρ K ∗ atPos ER (recvCell c c) 0 ∅ 0) ⊢ (|={Set.univ}=> semVal (recvCell c c) 0 : sProp 𝕄) := by
  iintro ⟨#HR, Hat⟩
  imod (Rounds.cell_close ER (Rd m ρ) (Set.mem_univ (K (c, .inr (.inr c)))) (fun h => h) (R := 0) (duties_self m ρ c)) $$ [Hat] with Hz
  · isplitr; · iapply (inv_at m ρ K (c, .inr (.inr c))); iexact HR
    iexact Hat
  imodintro; iexact Hz

/-- What a device ends with. -/
theorem leave (c : Dev nD) :
    iprop(slotPts m ρ c c (keep 7) ∗ backs m ρ c 7 ∗ recvs m ρ c 0 ∗ semVal (barCell c) 0 ∗ semVal (recvCell c c) 0) ⊢ Φ₁ m ρ c := by
  unfold backs recvs Φ₁
  rw [bigSep_rangeSet_empty le_rfl, bigSep_rangeSet_empty le_rfl, ring_split c, scr_split, ring_split c]
  simp only [bigSep_sep']
  rw [← rangeSet_univ]
  iintro ⟨Hk, ⟨-, HzS, Hl⟩, ⟨-, HzV, Hs⟩, HzB, Hzc⟩
  ihave Hown := (lends_join m ρ c 7 le_rfl) $$ [Hl Hk]
  · isplitl [Hl] <;> iassumption
  unfold slotPts
  isplitl [Hown Hs]
  · isplitl [Hown]; · iexact Hown
    iexact Hs
  isplitl [HzB]; · iexact HzB
  isplitl [HzS]; · iexact HzS
  isplitl [Hzc] <;> iassumption

/-! ## The names the program gives cells and devices -/

theorem dev_eq {x : ℕ} {c : Dev nD} (n : ℕ) (h : n < 7) (hx : x = (c.val + (n + 1)) % 8) (lt : x < nD) : (⟨x, lt⟩ : Dev nD) = pl c ⟨n, h⟩ :=
  Fin.ext (hx.trans (by rw [← Nat.add_assoc]; rfl))

theorem recv_sem {off : Fin 1 → ℕ} (s : Dev nD) (h : off = ![s.val]) (inb) :
    ((cc0_scratch2.slice (Rect.unit (s := S8) off S1.size inb)).squeeze S_ squeezes_S1_S_).sem = recvS s := by
  subst h; revert s; decide

/-! ## The body -/

section Body

variable (K : Dev nD × KI → ℕ)

theorem hz : (![0, 0] : Fin 2 → Nat) = fun _ => 0 := funext fun a => by fin_cases a <;> rfl

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ m ρ c ∗ (dats m ρ 0 c).owesAt () t₀.succ ∗ stg c cc0_stg0_0 (qstg m ρ c) ∗ stg c cc0_stg1_0 (kstg m ρ c)
    ∗ stg c cc0_stg2_0 (vstg m ρ c) ∗ stg c cc0_stg3_0 (outAt m ρ c))

/-- Loads and stores of a buffer held whole. -/
theorem load_buf {α : Type} {Q : α → sProp (MT nD τ sig Unit (Elt F) ℕ UU ℕ)} (c : Dev nD) {s : Shape} {e : EltTy} (xM : Memref sig .tc .vmem s e) {r : Rect s}
    {f : Buf (Elt F) (xM.view.loc (c : Thread nD τ))}
    (X : r.shape.Idx → Elt F e) (hX : xM.view.readAt (Elt F) r.toLoadRect f = X) {hl : xM.view.LoadsAt r.toLoadRect}
    {kx : (r.shape.Idx → Elt F e) → Prog (TpuEff nD τ sig (Elt F) Λ₀ .tc) α} :
    ((xM.view.loc (c : Thread nD τ)) ↦{fullShare} f)
      ⊢ iprop((((xM.view.loc (c : Thread nD τ)) ↦{fullShare} f) -∗ wp frame (wpE (defs₀ (F := F)) 𝒱₀ (c : Thread nD τ) none) Set.univ (kx X) Q)
          -∗ wp frame (wpE (defs₀ (F := F)) 𝒱₀ (c : Thread nD τ) none) Set.univ (.op (.load xM r.toLoadRect hl) kx) Q) := by
  subst hX
  iintro H Hk
  iapply (wp_load 𝒱₀ (c : Thread nD τ) none Set.univ (m := xM) (Finset.subset_univ _)) $$ H
  iexact Hk

abbrev r0 : Rect S512x128 := Rect.unit (s := S512x128) ![0, 0] S512x128.size inb_S512x128_S512x128_0_0

/-- The store of the output, over any contents. -/
theorem store_out {α : Type} {Q : α → sProp (MT nD τ sig Unit (Elt F) ℕ UU ℕ)} (c : Dev nD) (f : Buf (Elt F) ((c : Thread nD τ).loc cc0_stg3_0))
    {w : FVec F S512x128 .f32} (hw : w = outAt m ρ c) {k : PUnit → Prog (TpuEff nD τ sig (Elt F) Λ₀ .tc) α}
    {hx : ((Memref.whole cc0_stg3_0 : Memref sig .tc .vmem S512x128 .f32).access r0 : View sig .tc _ _ _).Stores Finset.univ} {hm} :
    (((c : Thread nD τ).loc cc0_stg3_0) ↦{fullShare} f)
      ⊢ iprop((stg c cc0_stg3_0 (outAt m ρ c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg3_0) r0 w Finset.univ hx hm) k) Q) := by
  subst hw
  iintro H Hk
  iapply (wp_store 𝒱₀ (c : Thread nD τ) none Set.univ (m := Memref.whole cc0_stg3_0) (r := r0) (w := outAt m ρ c) (Mk := Finset.univ)
    (S := Finset.univ) (f := f) (Finset.subset_univ _)) $$ H
  iintro H
  iapply Hk
  rw [show ((Memref.whole cc0_stg3_0 : Memref sig .tc .vmem S512x128 .f32).access r0 : View sig .tc _ _ _).write (Elt F) f (outAt m ρ c) Finset.univ = outAt m ρ c from
    Memref.write_access_unit_zero_univ (Elt F) cc0_stg3_0 hz _ f (outAt m ρ c)]
  iexists _; isplitr; · (ipureintro; rfl)
  iexact H

set_option maxHeartbeats 4000000 in
theorem sound_body (c : Dev nD) (Kt : PUnit → sProp (MT nD τ sig Unit (Elt F) ℕ UU ℕ)) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  unfold bodyPre
  iintro ⟨⟨HΦ, Ho, ⟨%d0, %g0, %hg0, Hq⟩, ⟨%d1, %g1, %hg1, Hk⟩, ⟨%d2, %g2, %hg2, Hv⟩, ⟨%d3, %g3, %hg3, Hout⟩⟩, Hpost⟩
  have hq : g0 = qstg m ρ c := by rw [hg0]; unfold Dat.before; rw [if_pos (fetch_in 0 (by decide) t₀)]; rfl
  have hk : g1 = kstg m ρ c := by rw [hg1]; unfold Dat.before; rw [if_pos (fetch_in 1 (by decide) t₀)]; rfl
  have hv : g2 = vstg m ρ c := by rw [hg2]; unfold Dat.before; rw [if_pos (fetch_in 2 (by decide) t₀)]; rfl
  subst hq hk hv
  ihave HE := (enter m ρ c) $$ HΦ
  icases HE with ⟨%K, #HR, #Hlev, Hsig, Hown, HcB, HpB, HtC, HpS, HpVc, Hrecv⟩
  ihave HO := (show (dats m ρ 0 c).owesAt () t₀.castSucc ⊢ owing (F := F) c (owedR c 0 + owedB c 0) from by
    unfold Dat.owesAt Pipeline.owesWithin owing
    rw [show (dats m ρ 0 c).owed t₀.castSucc = owedR c 0 + owedB c 0 from rfl]
    iintro ⟨%W, %hW, HO⟩
    iexists W; iexact HO) $$ Ho
  unfold slotAny
  icases Hown with ⟨%f0, Hown⟩
  rw [cc0_body_eq_skeleton]; unfold cc0_body_skel
  rw [k0_part13_eq_skeleton]; unfold k0_part13_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton, k0_part10_eq_skeleton,
    k0_part11_eq_skeleton, k0_part12_eq_skeleton]
  unfold k0_part1_skel k0_part2_skel k0_part3_skel k0_part4_skel k0_part5_skel k0_part6_skel k0_part7_skel k0_part8_skel
    k0_part9_skel k0_part10_skel k0_part11_skel k0_part12_skel
  simp only [semSignalWord, semWaitWord, Prog.lift, Prog.bind_op, Prog.bind_ret, Prog.pure_eq_ret, wp_deviceId]
  iapply (step_signal m ρ K c 0 1 rfl (by decide) (congrArg Dev.tc (dev_eq 0 (by decide) (k0_dev1_eq c) _)) rfl rfl) $$ [Hsig HO]
  · isplitr; · iexact HR
    isplitl [Hsig] <;> iassumption
  iintro ⟨Hsig, HO⟩
  iapply (step_signal m ρ K c 1 2 rfl (by decide) (congrArg Dev.tc (dev_eq 1 (by decide) (k0_dev2_eq c) _)) rfl rfl) $$ [Hsig HO]
  · isplitr; · iexact HR
    isplitl [Hsig] <;> iassumption
  iintro ⟨Hsig, HO⟩
  iapply (step_signal m ρ K c 2 3 rfl (by decide) (congrArg Dev.tc (dev_eq 2 (by decide) (k0_dev3_eq c) _)) rfl rfl) $$ [Hsig HO]
  · isplitr; · iexact HR
    isplitl [Hsig] <;> iassumption
  iintro ⟨Hsig, HO⟩
  iapply (step_signal m ρ K c 3 4 rfl (by decide) (congrArg Dev.tc (dev_eq 3 (by decide) (k0_dev4_eq c) _)) rfl rfl) $$ [Hsig HO]
  · isplitr; · iexact HR
    isplitl [Hsig] <;> iassumption
  iintro ⟨Hsig, HO⟩
  iapply (step_signal m ρ K c 4 5 rfl (by decide) (congrArg Dev.tc (dev_eq 4 (by decide) (k0_dev5_eq c) _)) rfl rfl) $$ [Hsig HO]
  · isplitr; · iexact HR
    isplitl [Hsig] <;> iassumption
  iintro ⟨Hsig, HO⟩
  iapply (step_signal m ρ K c 5 6 rfl (by decide) (congrArg Dev.tc (dev_eq 5 (by decide) (k0_dev6_eq c) _)) rfl rfl) $$ [Hsig HO]
  · isplitr; · iexact HR
    isplitl [Hsig] <;> iassumption
  iintro ⟨Hsig, HO⟩
  iapply (step_signal m ρ K c 6 7 rfl (by decide) (congrArg Dev.tc (dev_eq 6 (by decide) (k0_dev7_eq c) _)) rfl rfl) $$ [Hsig HO]
  · isplitr; · iexact HR
    isplitl [Hsig] <;> iassumption
  iintro ⟨Hsig, HO⟩
  ihave HO := (Entails.of_eq (congrArg (fun O => owing (F := F) c (owedR c 0 + O)) (owedB_end c))) $$ HO
  ihave HO := (Entails.of_eq (congrArg (owing (F := F) c) (add_zero (owedR c 0)))) $$ HO
  -- its own slot: rounded keys and values
  iapply (load_buf c (Memref.whole cc0_stg1_0) (kstg m ρ c) (Memref.readAt_unit_zero (Elt F) cc0_stg1_0 hz _ _)) $$ Hk; iintro Hk
  iapply (wp_load 𝒱₀ (c : Thread nD τ) none Set.univ (m := kvM) (half_on c 0 (k0_off1_eq c) _)) $$ Hown; iintro Hown
  iapply (store_half c c 0 (k0_off1_eq c) _) $$ Hown; iintro Hown
  iapply (load_buf c (Memref.whole cc0_stg2_0) (vstg m ρ c) (Memref.readAt_unit_zero (Elt F) cc0_stg2_0 hz _ _)) $$ Hv; iintro Hv
  iapply (wp_load 𝒱₀ (c : Thread nD τ) none Set.univ (m := kvM) (half_on c 1 (k0_off2_eq c) _)) $$ Hown; iintro Hown
  iapply (store_half c c 1 (k0_off2_eq c) _) $$ Hown; iintro Hown
  ihave Hown := (own_stored m ρ c _ _ f0) $$ Hown
  -- the seven signals have come
  iapply (step_bar m ρ K c rfl rfl) $$ [HcB HpB HO]
  · isplitr; · iexact HR
    isplitr; · iexact Hlev
    isplitl [HcB]; · iexact HcB
    isplitl [HpB] <;> iassumption
  iintro ⟨HzB, Hdst, HO⟩
  ihave Hsend := (sends_intro c) $$ [HtC Hdst]
  · isplitl [HtC] <;> iassumption
  iapply (step_send m ρ K c 0 1 rfl (by decide) (dev_eq 0 (by decide) (k0_dev8_eq c) _) rfl (recv_sem c (k0_off3_eq c) _)) $$ [Hsend Hown HO]
  · isplitr; · iexact HR
    isplitl [Hsend]; · iexact Hsend
    isplitl [Hown] <;> iassumption
  iintro ⟨Hsend, Hown, HO⟩
  iapply (step_send m ρ K c 1 2 rfl (by decide) (dev_eq 1 (by decide) (k0_dev9_eq c) _) rfl (recv_sem c (k0_off3_eq c) _)) $$ [Hsend Hown HO]
  · isplitr; · iexact HR
    isplitl [Hsend]; · iexact Hsend
    isplitl [Hown] <;> iassumption
  iintro ⟨Hsend, Hown, HO⟩
  iapply (step_send m ρ K c 2 3 rfl (by decide) (dev_eq 2 (by decide) (k0_dev10_eq c) _) rfl (recv_sem c (k0_off3_eq c) _)) $$ [Hsend Hown HO]
  · isplitr; · iexact HR
    isplitl [Hsend]; · iexact Hsend
    isplitl [Hown] <;> iassumption
  iintro ⟨Hsend, Hown, HO⟩
  iapply (step_send m ρ K c 3 4 rfl (by decide) (dev_eq 3 (by decide) (k0_dev11_eq c) _) rfl (recv_sem c (k0_off3_eq c) _)) $$ [Hsend Hown HO]
  · isplitr; · iexact HR
    isplitl [Hsend]; · iexact Hsend
    isplitl [Hown] <;> iassumption
  iintro ⟨Hsend, Hown, HO⟩
  iapply (step_send m ρ K c 4 5 rfl (by decide) (dev_eq 4 (by decide) (k0_dev12_eq c) _) rfl (recv_sem c (k0_off3_eq c) _)) $$ [Hsend Hown HO]
  · isplitr; · iexact HR
    isplitl [Hsend]; · iexact Hsend
    isplitl [Hown] <;> iassumption
  iintro ⟨Hsend, Hown, HO⟩
  iapply (step_send m ρ K c 5 6 rfl (by decide) (dev_eq 5 (by decide) (k0_dev13_eq c) _) rfl (recv_sem c (k0_off3_eq c) _)) $$ [Hsend Hown HO]
  · isplitr; · iexact HR
    isplitl [Hsend]; · iexact Hsend
    isplitl [Hown] <;> iassumption
  iintro ⟨Hsend, Hown, HO⟩
  iapply (step_send m ρ K c 6 7 rfl (by decide) (dev_eq 6 (by decide) (k0_dev14_eq c) _) rfl (recv_sem c (k0_off3_eq c) _)) $$ [Hsend Hown HO]
  · isplitr; · iexact HR
    isplitl [Hsend]; · iexact Hsend
    isplitl [Hown] <;> iassumption
  iintro ⟨Hsend, Hown, HO⟩
  ihave HO := (Entails.of_eq (congrArg (owing (F := F) c) (owedR_end c))) $$ HO
  ihave Hback := (backs_intro m ρ c) $$ [Hsend HpS]
  · isplitl [Hsend] <;> iassumption
  -- its own block of scores
  iapply (load_buf c (Memref.whole cc0_stg0_0) (qstg m ρ c) (Memref.readAt_unit_zero (Elt F) cc0_stg0_0 hz _ _)) $$ Hq; iintro Hq
  iapply (load_half m ρ c c (keep 7) 0 (k0_off1_eq c) _ (read_k m ρ c (k0_off1_eq c) _)) $$ Hown; iintro Hown
  iapply (load_half m ρ c c (keep 7) 1 (k0_off2_eq c) _ (read_v m ρ c (k0_off2_eq c) _)) $$ Hown; iintro Hown
  -- the seven others'
  iapply (step_recv m ρ K c 6 7 rfl (by decide) (recv_sem (pl c 6) (k0_off5_eq c 6) _)) $$ [Hrecv HO]
  · isplitr; · iexact HR
    isplitl [Hrecv] <;> iassumption
  iintro ⟨Hrecv, HO⟩
  iapply (load_recv m ρ c 6 6 le_rfl 0 (k0_off7_eq c 6) _ (read_k m ρ (pl c 6) (k0_off7_eq c 6) _)) $$ Hrecv; iintro Hrecv
  iapply (load_recv m ρ c 6 6 le_rfl 1 (k0_off8_eq c 6) _ (read_v m ρ (pl c 6) (k0_off8_eq c 6) _)) $$ Hrecv; iintro Hrecv
  iapply (step_recv m ρ K c 5 6 rfl (by decide) (recv_sem (pl c 5) (k0_off5_eq c 5) _)) $$ [Hrecv HO]
  · isplitr; · iexact HR
    isplitl [Hrecv] <;> iassumption
  iintro ⟨Hrecv, HO⟩
  iapply (load_recv m ρ c 5 5 le_rfl 0 (k0_off7_eq c 5) _ (read_k m ρ (pl c 5) (k0_off7_eq c 5) _)) $$ Hrecv; iintro Hrecv
  iapply (load_recv m ρ c 5 5 le_rfl 1 (k0_off8_eq c 5) _ (read_v m ρ (pl c 5) (k0_off8_eq c 5) _)) $$ Hrecv; iintro Hrecv
  iapply (step_recv m ρ K c 4 5 rfl (by decide) (recv_sem (pl c 4) (k0_off5_eq c 4) _)) $$ [Hrecv HO]
  · isplitr; · iexact HR
    isplitl [Hrecv] <;> iassumption
  iintro ⟨Hrecv, HO⟩
  iapply (load_recv m ρ c 4 4 le_rfl 0 (k0_off7_eq c 4) _ (read_k m ρ (pl c 4) (k0_off7_eq c 4) _)) $$ Hrecv; iintro Hrecv
  iapply (load_recv m ρ c 4 4 le_rfl 1 (k0_off8_eq c 4) _ (read_v m ρ (pl c 4) (k0_off8_eq c 4) _)) $$ Hrecv; iintro Hrecv
  iapply (step_recv m ρ K c 3 4 rfl (by decide) (recv_sem (pl c 3) (k0_off5_eq c 3) _)) $$ [Hrecv HO]
  · isplitr; · iexact HR
    isplitl [Hrecv] <;> iassumption
  iintro ⟨Hrecv, HO⟩
  iapply (load_recv m ρ c 3 3 le_rfl 0 (k0_off7_eq c 3) _ (read_k m ρ (pl c 3) (k0_off7_eq c 3) _)) $$ Hrecv; iintro Hrecv
  iapply (load_recv m ρ c 3 3 le_rfl 1 (k0_off8_eq c 3) _ (read_v m ρ (pl c 3) (k0_off8_eq c 3) _)) $$ Hrecv; iintro Hrecv
  iapply (step_recv m ρ K c 2 3 rfl (by decide) (recv_sem (pl c 2) (k0_off5_eq c 2) _)) $$ [Hrecv HO]
  · isplitr; · iexact HR
    isplitl [Hrecv] <;> iassumption
  iintro ⟨Hrecv, HO⟩
  iapply (load_recv m ρ c 2 2 le_rfl 0 (k0_off7_eq c 2) _ (read_k m ρ (pl c 2) (k0_off7_eq c 2) _)) $$ Hrecv; iintro Hrecv
  iapply (load_recv m ρ c 2 2 le_rfl 1 (k0_off8_eq c 2) _ (read_v m ρ (pl c 2) (k0_off8_eq c 2) _)) $$ Hrecv; iintro Hrecv
  iapply (step_recv m ρ K c 1 2 rfl (by decide) (recv_sem (pl c 1) (k0_off5_eq c 1) _)) $$ [Hrecv HO]
  · isplitr; · iexact HR
    isplitl [Hrecv] <;> iassumption
  iintro ⟨Hrecv, HO⟩
  iapply (load_recv m ρ c 1 1 le_rfl 0 (k0_off7_eq c 1) _ (read_k m ρ (pl c 1) (k0_off7_eq c 1) _)) $$ Hrecv; iintro Hrecv
  iapply (load_recv m ρ c 1 1 le_rfl 1 (k0_off8_eq c 1) _ (read_v m ρ (pl c 1) (k0_off8_eq c 1) _)) $$ Hrecv; iintro Hrecv
  iapply (step_recv m ρ K c 0 1 rfl (by decide) (recv_sem (pl c 0) (k0_off5_eq c 0) _)) $$ [Hrecv HO]
  · isplitr; · iexact HR
    isplitl [Hrecv] <;> iassumption
  iintro ⟨Hrecv, HO⟩
  iapply (load_recv m ρ c 0 0 le_rfl 0 (k0_off7_eq c 0) _ (read_k m ρ (pl c 0) (k0_off7_eq c 0) _)) $$ Hrecv; iintro Hrecv
  iapply (load_recv m ρ c 0 0 le_rfl 1 (k0_off8_eq c 0) _ (read_v m ρ (pl c 0) (k0_off8_eq c 0) _)) $$ Hrecv; iintro Hrecv
  -- the output, and the copies' sources back
  iapply (load_buf c (Memref.whole cc0_stg3_0) _ rfl) $$ Hout; iintro Hout
  iapply (store_out m ρ c g3 rfl) $$ Hout; iintro Hout
  iapply (step_back m ρ K c 0 1 rfl (by decide) rfl) $$ [Hback HO]
  · isplitr; · iexact HR
    isplitl [Hback] <;> iassumption
  iintro ⟨Hback, HO⟩
  iapply (step_back m ρ K c 1 2 rfl (by decide) rfl) $$ [Hback HO]
  · isplitr; · iexact HR
    isplitl [Hback] <;> iassumption
  iintro ⟨Hback, HO⟩
  iapply (step_back m ρ K c 2 3 rfl (by decide) rfl) $$ [Hback HO]
  · isplitr; · iexact HR
    isplitl [Hback] <;> iassumption
  iintro ⟨Hback, HO⟩
  iapply (step_back m ρ K c 3 4 rfl (by decide) rfl) $$ [Hback HO]
  · isplitr; · iexact HR
    isplitl [Hback] <;> iassumption
  iintro ⟨Hback, HO⟩
  iapply (step_back m ρ K c 4 5 rfl (by decide) rfl) $$ [Hback HO]
  · isplitr; · iexact HR
    isplitl [Hback] <;> iassumption
  iintro ⟨Hback, HO⟩
  iapply (step_back m ρ K c 5 6 rfl (by decide) rfl) $$ [Hback HO]
  · isplitr; · iexact HR
    isplitl [Hback] <;> iassumption
  iintro ⟨Hback, HO⟩
  iapply (step_back m ρ K c 6 7 rfl (by decide) rfl) $$ [Hback HO]
  · isplitr; · iexact HR
    isplitl [Hback] <;> iassumption
  iintro ⟨Hback, HO⟩
  imod (close_self m ρ K c) $$ [HpVc] with Hzc
  · isplitr; · iexact HR
    iexact HpVc
  rw [wp_ret]; imodintro
  iapply Hpost
  unfold bodyPost
  isplitl [Hown Hback Hrecv HzB Hzc]
  · iapply (leave m ρ c)
    isplitl [Hown]; · iexact Hown
    isplitl [Hback]; · iexact Hback
    isplitl [Hrecv]; · iexact Hrecv
    isplitl [HzB] <;> iassumption
  isplitl [HO]
  · iapply (show owing (F := F) c 0 ⊢ (dats m ρ 0 c).owesAt () t₀.succ from by
      unfold Dat.owesAt Pipeline.owesWithin owing
      rw [show (dats m ρ 0 c).owed t₀.succ = 0 from rfl]
      iintro ⟨%W, HO⟩
      iexists W
      isplitr; · ipureintro; exact fun _ _ => Or.inl trivial
      iexact HO) $$ HO
  isplitl [Hq]
  · iexists _; isplitr; · (ipureintro; rfl)
    iexact Hq
  isplitl [Hk]
  · iexists _; isplitr; · (ipureintro; rfl)
    iexact Hk
  isplitl [Hv]
  · iexists _; isplitr; · (ipureintro; rfl)
    iexact Hv
  iexact Hout

end Body

end Cert.Attn

end
-- ==== Proof.Launch.lean ====
/-
From one device's body to a run of the eight devices: the cells' ghost state is dealt to the devices, and the launch
theorem is applied with the barrier semaphore among what the devices start with.
-/
module

public import proofs.«01_k».proof.Proof.Body
public import Idealize.ShloMosaic.Lib.Quiescent
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem body_obligation (c : Dev nD) : BodyObligation (dats (F := F) m ρ 0 c) (defs₀ (F := F)) 𝒱₀ () Set.univ := fun t => by
  rw [fin_N t, bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

/-! ## Funding the cells -/

/-- The fifteen transfer semaphores of the call's scratch. -/
def osem : Fin 7 ⊕ Dev nD → SemLoc sig := fun k => semOf (.inr k)
theorem ownSemFacts : Pipeline.OwnSemFacts cfg0.spec osem := by decide

theorem share_eq (c : Dev nD) (w : Fin cfg0.W) : (dats (F := F) m ρ 0 c).share w = fullShare := by unfold Dat.share; split <;> rfl

theorem kcell_injective : Function.Injective (kcell : Dev nD × KI → GSem nD τ sig) := fun a b h =>
  Prod.ext (congrArg (fun g : GSem nD τ sig => g.1.1) h) (semOf_injective (congrArg Prod.snd h))
def theCells : Finset (GSem nD τ sig) := Finset.univ.map ⟨kcell, kcell_injective⟩

/-- The duties by the device that pays them: its seven signals, the reading and the landing of its seven copies. -/
abbrev tokOf (cj : Dev nD × (Fin 7 ⊕ Fin 7 ⊕ Fin 7)) : GSem nD τ sig × ℕ × Fin 7 := match cj.2 with
  | .inl j => (barCell (pl cj.1 j), 0, j.rev)
  | .inr (.inl j) => (sendCell cj.1 j, 0, 0)
  | .inr (.inr j) => (recvCell (pl cj.1 j) cj.1, 0, 0)

/-- Which device, which semaphore, which duty: enough to tell the duties apart. -/
def tokKey (cj : Dev nD × (Fin 7 ⊕ Fin 7 ⊕ Fin 7)) : Fin 8 × SemLoc sig × Fin 7 := match cj.2 with
  | .inl j => (pl cj.1 j, .reg barS, j.rev)
  | .inr (.inl j) => (cj.1, .dma (sendS j), 0)
  | .inr (.inr j) => (pl cj.1 j, .dma (recvS cj.1), 0)
theorem tokKey_injective : Function.Injective tokKey := by
  rintro ⟨c, j | j | j⟩ ⟨d, i | i | i⟩ h
  · have h2 : j = i := Fin.rev_injective (congrArg (fun x => x.2.2) h)
    subst h2
    have h1 : pl c j = pl d j := congrArg Prod.fst h
    rw [show c = d by rw [← pl_rev c j, ← pl_rev d j, h1]]
  · exact absurd (congrArg (fun x => x.2.1) h) (by intro h; cases h)
  · exact absurd (congrArg (fun x => x.2.1) h) (by intro h; cases h)
  · exact absurd (congrArg (fun x => x.2.1) h) (by intro h; cases h)
  · have h1 : c = d := congrArg Prod.fst h
    have h2 : (.inr (.inl j) : KI) = .inr (.inl i) := semOf_injective (congrArg (fun x => x.2.1) h)
    cases h1; cases h2; rfl
  · have h2 : (.inr (.inl j) : KI) = .inr (.inr d) := semOf_injective (congrArg (fun x => x.2.1) h)
    cases h2
  · exact absurd (congrArg (fun x => x.2.1) h) (by intro h; cases h)
  · have h2 : (.inr (.inr c) : KI) = .inr (.inl i) := semOf_injective (congrArg (fun x => x.2.1) h)
    cases h2
  · have h2 : (.inr (.inr c) : KI) = .inr (.inr d) := semOf_injective (congrArg (fun x => x.2.1) h)
    cases h2
    have h1 : j = i := pl_inj c (congrArg Prod.fst h)
    rw [h1]
theorem tokOf_injective : Function.Injective tokOf := fun a b h => tokKey_injective (by
  have hk : ∀ x, tokKey x = ((tokOf x).1.1.1, (tokOf x).1.2, (tokOf x).2.2) := by rintro ⟨c, j | j | j⟩ <;> rfl
  rw [hk, hk, h])
def theToks : Finset (GSem nD τ sig × ℕ × Fin 7) := Finset.univ.map ⟨tokOf, tokOf_injective⟩

def u₀ : UU :=
  (initOf (Pipeline.cells cfgs cellOf_inj) (Pipeline.launchToks cfgs cellOf_inj), initOf theCells theToks)

/-- What the launch deals device `c`. -/
def G (c : Dev nD) : sProp 𝕄 :=
  iprop((bigSep Finset.univ fun k : KI => roundState ER (Rd m ρ) (kcell (c, k)) 0)
    ∗ (bigSep Finset.univ fun k : KI => reached ER (kcell (c, k)) 0) ∗ pos c ∗ payToks c)

/-- What each device holds once every device's cells are shared. -/
def G' (c : Dev nD) : sProp 𝕄 := iprop(∃ K, records m ρ K ∗ pos c ∗ payToks c)

omit [FloatOps F] [Named F] in
theorem bigSep_KI (Φ : KI → sProp 𝕄) : bigSep Finset.univ Φ
    = iprop(Φ (.inl ()) ∗ (bigSep Finset.univ fun j : Fin 7 => Φ (.inr (.inl j))) ∗ bigSep Finset.univ fun s : Dev nD => Φ (.inr (.inr s))) := by
  rw [BI.bigSep_univ_sum, BI.bigSep_univ_sum, Finset.univ_unique, bigSep_singleton]; rfl

theorem fund_cells : BI.own (ER (initOf theCells theToks)) ⊢ (|==> bigSep Finset.univ (G m ρ) : sProp 𝕄) := by
  have hX (Φ : GSem nD τ sig → sProp (MT nD τ sig Unit (Elt F) ℕ UU ℕ)) : bigSep theCells Φ = bigSep Finset.univ fun c : Dev nD => bigSep Finset.univ fun k : KI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => payToks c := by
    unfold theToks; rw [bigSep_map, bigSep_univ_prod]
    exact bigSep_congr fun c _ => by unfold payToks; rw [BI.bigSep_univ_sum, BI.bigSep_univ_sum, bigSep_sep']; rfl
  have hP : (bigSep Finset.univ fun c : Dev nD => bigSep Finset.univ fun k : KI => (atPos ER (kcell (c, k)) 0 ∅ 0 : sProp 𝕄)) = bigSep Finset.univ fun c : Dev nD => pos c :=
    bigSep_congr fun c _ => by unfold pos; rw [bigSep_KI]; rfl
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq ((hX fun g => atPos ER g 0 ∅ 0).trans hP)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hr']; · iexact Hr'
  isplitl [Hat']; · iexact Hat'
  iexact Htok'

omit [FloatOps F] [Named F] in
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun s : Dev nD => semVal (recvCell c s) 0) := by
  unfold Pipeline.ownSems0; rw [BI.bigSep_univ_sum]; rfl
omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq, bigSep_KI]
  iintro ⟨⟨HS, HV⟩, HB⟩
  isplitl [HB]; · iexact HB
  isplitl [HS]; · iexact HS
  iexact HV

/-- Counter and round state of a device's cells go into their invariants. -/
theorem cells_alloc (c : Dev nD) :
    iprop((bigSep Finset.univ fun k : KI => semVal (kcell (c, k)) 0) ∗ bigSep Finset.univ fun k : KI => roundState ER (Rd m ρ) (kcell (c, k)) 0)
      ⊢ (|={Set.univ}=> bigSep Finset.univ fun k => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => reached ER (kcell (c, k)) 0) ∗ pos c ∗ payToks c) := by
  unfold G
  iintro ⟨Hos, Hus, Hst, Hr, Hrest⟩
  ihave Hv := (sems_eq (F := F) c) $$ [Hos Hus]
  · isplitl [Hos] <;> iassumption
  imod (cells_alloc m ρ c) $$ [Hv Hst] with Hinv
  · isplitl [Hv] <;> iassumption
  imodintro
  isplitl [Hinv]; · iexact Hinv
  isplitl [Hr]; · iexact Hr
  iexact Hrest

theorem deal (K : Dev nD × KI → ℕ) (c : Dev nD) : iprop(records m ρ K ∗ pos c ∗ payToks c) ⊢ G' m ρ c := by
  unfold G'; iintro H; iexists K; iexact H

omit [FloatOps F] [Named F] in
theorem bigSep_share {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => reached ER (kcell (c, k)) 0) ∗ pos c ∗ payToks c) : sProp 𝕄)
      ⊢ bigSep Finset.univ (G' m ρ) := by
  rw [bigSep_sep', bigSep_sep', ← bigSep_univ_prod (fun ck : Dev nD × KI => iprop(∃ κ : ℕ, cellInv ER (Rd m ρ) κ (kcell ck))),
    ← bigSep_univ_prod (fun ck : Dev nD × KI => (reached ER (kcell ck) 0 : sProp 𝕄))]
  iintro ⟨HI, #HR, Hrest⟩
  ihave HK := (BI.bigSep_exists_pi Finset.univ (fun (ck : Dev nD × KI) (κ : ℕ) => (cellInv ER (Rd m ρ) κ (kcell ck) : sProp 𝕄))) $$ HI
  icases HK with ⟨%K, #HI⟩
  iapply (bigSep_share (R := records m ρ K) fun c _ => deal m ρ K c)
  isplitr
  · unfold records; isplitl; · iexact HI
    iexact HR
  iexact Hrest

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What the devices owe a cell in all -/

omit [FloatOps F] [Named F] in
theorem bar_iff {a b : Dev nD} : barCell a = barCell b ↔ a = b :=
  ⟨fun h => congrArg (fun g : GSem nD τ sig => g.1.1) h, fun h => h ▸ rfl⟩
omit [FloatOps F] [Named F] in
theorem recv_iff {a b s t : Dev nD} : recvCell a s = recvCell b t ↔ a = b ∧ s = t :=
  ⟨fun h => ⟨congrArg (fun g : GSem nD τ sig => g.1.1) h, by
      have h2 : (.inr (.inr s) : KI) = .inr (.inr t) := semOf_injective (congrArg Prod.snd h)
      cases h2; rfl⟩, fun h => by rw [h.1, h.2]⟩

omit [FloatOps F] [Named F] in
theorem sum_tally (f : Fin 7 → GSem nD τ sig) (k : ℕ) (g : GSem nD τ sig) :
    (∑ j ∈ rangeSet 7 0 7, tallyAt (f j) () k : CellTallies nD τ sig Unit) g () = ∑ j : Fin 7, if g = f j then k else 0 := by
  rw [rangeSet_univ, Finset.sum_apply, Finsupp.finset_sum_apply]
  exact Finset.sum_congr rfl fun j _ => by rw [tallyAt_apply]; simp

omit [FloatOps F] [Named F] in
theorem owed_bar (d c : Dev nD) : O₀ d (barCell c) () = ∑ j : Fin 7, if c = pl d j then 1 else 0 := by
  unfold O₀ owedR owedB
  rw [Pi.add_apply, Finsupp.add_apply, sum_tally, sum_tally, Finset.sum_eq_zero fun j _ => if_neg fun h => ?_, Nat.zero_add]
  · simp only [bar_iff]
  · exact absurd (congrArg Prod.snd h) (fun h => by cases h)

omit [FloatOps F] [Named F] in
theorem owed_recv (d c s : Dev nD) : O₀ d (recvCell c s) () = ∑ j : Fin 7, if c = pl d j ∧ s = d then N else 0 := by
  unfold O₀ owedR owedB
  rw [Pi.add_apply, Finsupp.add_apply, sum_tally, sum_tally, Finset.sum_eq_zero (s := Finset.univ) (f := fun j : Fin 7 => if recvCell c s = barCell (pl d j) then 1 else 0)
    fun j _ => if_neg fun h => ?_, Nat.add_zero]
  · simp only [recv_iff]
  · exact absurd (congrArg Prod.snd h) (fun h => by cases h)

omit [FloatOps F] [Named F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] [Named F] in
theorem launch_recv (c : Dev nD) (j : Fin 7) :
    tallyOn (recvCell c (pl c j)) (launchCredit (Pipeline.owing O₀) 0 (recvCell c (pl c j))) = (tallyAt (recvCell c (pl c j)) () N : CellTallies nD τ sig Unit) := by
  unfold tallyAt; refine congrArg _ (Finsupp.ext fun u => ?_); cases u
  rw [Pipeline.launchCredit_owing, Finsupp.single_eq_same, Finset.sum_congr rfl fun d _ => owed_recv d c (pl c j),
    Finset.sum_eq_single (pl c j) (fun d _ h => Finset.sum_eq_zero fun i _ => if_neg fun h' => h h'.2.symm) (fun h => absurd (Finset.mem_univ _) h),
    Finset.sum_eq_single j.rev (fun i _ h => if_neg fun h' => h (pl_inj (pl c j) (h'.1.symm.trans (pl_rev c j).symm))) (fun h => absurd (Finset.mem_univ _) h),
    if_pos ⟨(pl_rev c j).symm, rfl⟩]

omit [FloatOps F] [Named F] in
theorem creds_intro (c : Dev nD) : (Pipeline.launchCred O₀ c : sProp 𝕄) ⊢ creds (F := F) c := by
  have hinj : Function.Injective fun j : Fin 7 => (SemLoc.dma (recvS (pl c j)) : SemLoc sig) := fun i j h => by
    have h2 : (.inr (.inr (pl c i)) : KI) = .inr (.inr (pl c j)) := semOf_injective h
    exact pl_inj c (Sum.inr.inj (Sum.inr.inj h2))
  have hsub : Finset.univ.map ⟨_, hinj⟩ ⊆ (Finset.univ : Finset (SemLoc sig)).erase (SemLoc.reg barS) := fun x hx => by
    obtain ⟨j, -, rfl⟩ := Finset.mem_map.mp hx
    exact Finset.mem_erase.mpr ⟨fun h => (by cases h), Finset.mem_univ _⟩
  unfold Pipeline.launchCred creds
  rw [bigSep_univ_at _ (SemLoc.reg barS), launch_bar]
  refine sep_mono_right ((bigSep_subset hsub).trans ?_)
  rw [bigSep_map]
  exact bigSep_mono fun j _ => Entails.of_eq (congrArg cred (launch_recv c j))

/-! ## The launch theorem's premises -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scrPts
  iintro ⟨Hr, HzB, Hz⟩
  isplitl [HzB]; · iexact HzB
  isplitl [Hz]; · iexact Hz
  iexists _; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Every window's array on every device ends at its computed contents. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- Over any float values, from any memory with zero counters, every weakly fair execution on the eight devices ends,
    each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Attn

end
-- ==== Proof.Frames.lean ====
/-
The frames: each program's run with what the arrays hold dropped, save that the arguments are unchanged.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

/-- A named constant over bit patterns is its pattern: the idealized text over bits is the kernel's own. -/
local instance : Named Bits where
  named _ _ {φ} b := Scalar.ofBits φ b

variable {F : FTy → Type} [FloatOps F] [Named F]

/-- The run with the values dropped. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c 0).trans ((dats (F := F) m ρ 0 c).arrAt_in (0 : Fin 4) rfl _),
      (h.1 c 1).trans ((dats (F := F) m ρ 0 c).arrAt_in (1 : Fin 4) rfl _),
      (h.1 c 2).trans ((dats (F := F) m ρ 0 c).arrAt_in (2 : Fin 4) rfl _)⟩, h.2⟩) (run_main m ρ)

theorem frame_ideal : Cert.quiescent_KernelIdeal := fun m ρ _ => run_frame (F := Ideal) m ρ

set_option maxRecDepth 10000 in
/-- Over bits the kernel's one body is the idealized one's; -/
theorem bodies_bits : Cert.Kernel.defs₀ (F := Bits) = defs₀ (F := Bits) := by
  refine congrArg (Defs.onTc (nD := nD) (τ := τ) (sig := sig) (Val := Elt Bits) (Λ := Λ₀)) (funext fun l => ?_)
  match l with
  | ⟨0, _⟩ => exact funext fun _ => rfl
/-- so the two programs run the same table, -/
theorem table_bits : Cert.Kernel.defs (F := Bits) = defs (F := Bits) := congrArg (Pipeline.defs (pcfgs (F := Bits))) bodies_bits

/-- and the run holds of any table equal to it. -/
theorem run_table {D : Defs nD τ sig (Elt F) (Pipeline.Sig Λ₀ (Fin 1) fun p => (pcfgs (F := F) p).Adm)} (hD : D = defs)
    (m : (ℓ : Loc nD τ sig) → Buf (Elt F) ℓ) (ρ : Dev nD → PrngReg) :
    θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) := by
  subst hD; exact run_frame m ρ

theorem frame_kernel : Cert.quiescent_Kernel := fun m ρ _ => run_table (F := Bits) table_bits m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl,
    IdealRules.named_const.statement _ _ _ _ _ rfl⟩

end Cert.Attn

end
-- ==== Proof.Quant.lean ====
/- The int8 grid at extended reals: the level a value rounds to, as the kernel reaches it (a product, a rounding, a
   clip, a conversion to int8) and as the reference does (a product, a quotient, a rounding, a clip). Also the float
   constants that the two programs spell. -/
module

public import Idealize.ShloMosaic.PureOps.Ideal

@[expose] public section

noncomputable section

namespace Cert.Attn

open Idealize.ShloMosaic

/-! ## The constants -/

theorem word_127 : Ideal.ofBits .f32 0x42FE0000#32 = ((127 : ℝ) : EReal) := by
  simp [Ideal.ofBits, Ideal.ieee, -EReal.coe_mul]; norm_num
theorem word_neg127 : Ideal.ofBits .f32 0xC2FE0000#32 = ((-127 : ℝ) : EReal) := by
  simp [Ideal.ofBits, Ideal.ieee, -EReal.coe_mul, -EReal.coe_neg]; norm_num
theorem word_5 : Ideal.ofBits .f32 0x40A00000#32 = ((5 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_bot : Ideal.ofBits .f32 0xFF800000#32 = ⊥ := by
  simp [Ideal.ofBits, Ideal.ieee]
theorem word_top : Ideal.ofBits .bf16 0x7F80#16 = ⊤ := by
  simp [Ideal.ofBits, Ideal.ieee]

/-! ## The grid -/

/-- The level in −127 … 127 nearest to `x · 127/5`, ties to even; an infinity goes to its end. -/
def level : EReal → ℤ
  | ⊥ => -127
  | ⊤ => 127
  | (r : ℝ) => min 127 (max (-127) (Ideal.roundHalfEven (r * (127 / 5))))

theorem level_bot : level ⊥ = -127 := rfl
theorem level_top : level ⊤ = 127 := rfl
theorem level_coe (r : ℝ) : level r = min 127 (max (-127) (Ideal.roundHalfEven (r * (127 / 5)))) := rfl

theorem level_ge (x : EReal) : -127 ≤ level x := by
  induction x with
  | bot => rw [level_bot]
  | top => rw [level_top]; decide
  | coe r => rw [level_coe]; omega
theorem level_le (x : EReal) : level x ≤ 127 := by
  induction x with
  | bot => rw [level_bot]; decide
  | top => rw [level_top]
  | coe r => rw [level_coe]; omega

/-- Rounding `x · 127/5` and clipping the outcome gives the level. -/
theorem clip_round (x : EReal) :
    min ((127 : ℝ) : EReal) (max ((-127 : ℝ) : EReal) (Ideal.liftRound Ideal.roundHalfEven (x * ((127 / 5 : ℝ) : EReal))))
      = ((level x : ℝ) : EReal) := by
  have hlt : ((-127 : ℝ) : EReal) ≤ ((127 : ℝ) : EReal) := by exact_mod_cast (by norm_num : (-127 : ℝ) ≤ 127)
  induction x with
  | bot =>
    rw [EReal.bot_mul_coe_of_pos (by norm_num), Ideal.liftRound_bot, max_eq_left bot_le, min_eq_right hlt, level_bot]
    congr 1; norm_num
  | top =>
    rw [EReal.top_mul_coe_of_pos (by norm_num), Ideal.liftRound_top, max_eq_right le_top, min_eq_left le_top, level_top]
    norm_num
  | coe r =>
    rw [← EReal.coe_mul, Ideal.liftRound_coe, ← EReal.coe_strictMono.monotone.map_max,
      ← EReal.coe_strictMono.monotone.map_min, level_coe]
    congr 1
    push_cast
    rfl

/-- The kernel's level: what the conversion to int8 leaves is read back as the level. -/
theorem level_kernel (x : EReal) :
    (Ideal.fptosi 8 (min ((127 : ℝ) : EReal) (max ((-127 : ℝ) : EReal)
      (Ideal.liftRound Ideal.roundHalfEven (x * ((127 / 5 : ℝ) : EReal)))))).toInt = level x := by
  have h1 := level_ge x
  have h2 := level_le x
  rw [clip_round, Ideal.fptosi, Ideal.toIntClamped_coe]
  have h : max (-((2 ^ (8 - 1) : Nat) : ℤ)) (min (((2 ^ (8 - 1) : Nat) : ℤ) - 1)
      (if 0 ≤ ((level x : ℤ) : ℝ) then ⌊((level x : ℤ) : ℝ)⌋ else ⌈((level x : ℤ) : ℝ)⌉)) = level x := by
    simp only [Int.floor_intCast, Int.ceil_intCast, ite_self]
    norm_num
    omega
  rw [h, BitVec.toInt_ofInt]
  simp only [Int.bmod]
  omega

/-- The reference's level: it multiplies by 127 and divides by 5. -/
theorem level_reference (x : EReal) :
    min ((127 : ℝ) : EReal) (max ((-127 : ℝ) : EReal)
      (Ideal.liftRound Ideal.roundHalfEven (Ideal.div (x * ((127 : ℝ) : EReal)) ((5 : ℝ) : EReal)))) = ((level x : ℝ) : EReal) := by
  rw [Ideal.div_coe (by norm_num), mul_assoc, ← EReal.coe_mul, show (127 : ℝ) * (1 / 5) = 127 / 5 by norm_num, clip_round]

/-- The reference's value on the grid: a level is worth `5/127`. -/
theorem worth (n : ℝ) :
    Ideal.div ((n : EReal) * ((5 : ℝ) : EReal)) ((127 : ℝ) : EReal) = ((n * (5 / 127) : ℝ) : EReal) := by
  rw [Ideal.div_coe (by norm_num), ← EReal.coe_mul, ← EReal.coe_mul]
  congr 1; ring

end Cert.Attn

end
-- ==== Proof.KernelValue.lean ====
/- The block that a device's kernel leaves, read at an index: the two sums over the eight blocks of keys and values. -/
module

public import proofs.«01_k».proof.Proof.Launch
public import proofs.«01_k».proof.Proof.Quant
public import Idealize.ShloMosaic.Lib.Pointwise
public import Idealize.ShloMosaic.Lib.Pipeline.ValueKit

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

variable (m : (ℓ : Loc nD τ sig) → Buf (Elt Ideal) ℓ) (ρ : Dev nD → PrngReg)

/-! ## What the kernel leaves, at an index -/

/-- The weights of one block of keys. -/
def wts (q : FVec Ideal S512x128 .bf16) (kb : IVec S1x1x512x128 8) : FVec Ideal S512x512 .f32 := k0_pay8 q kb
/-- What one block adds to the sum of the weights. -/
def addL (q : FVec Ideal S512x128 .bf16) (kb : IVec S1x1x512x128 8) : FVec Ideal S512x1 .f32 :=
  shapeCast S512x1 (multiReduction .add [1] S512 (wts q kb) 0x00000000#32 reduces_S512x512_S512 (.inl rfl) rfl) shapeCasts_S512_S512x1
/-- What one block adds to the weighted sum of the values. -/
def addA (q : FVec Ideal S512x128 .bf16) (kb vb : IVec S1x1x512x128 8) : FVec Ideal S512x128 .f32 :=
  matmul dot_S512x512_S512x128_S512x128_1_0_0_1_n_n none (truncf .bf16 (wts q kb) bitsLt_bf16_f32) (k0_pay11 vb)
    (constant S512x128 .f32 0x00000000#32)

/-- The stored block: the two sums over the eight blocks, scaled and divided. -/
theorem outAt_eq (c : Dev nD) : outAt m ρ c =
    divf (mulf (addf (addf (addf (addf (addf (addf (addf (addf (broadcast S512x128 (Scalar.ofBits .f32 0x00000000#32))
        (addA (k0_pay4 (qstg m ρ c)) (kslot m ρ c) (vslot m ρ c)))
        (addA (k0_pay4 (qstg m ρ c)) (kslot m ρ (pl c 6)) (vslot m ρ (pl c 6))))
        (addA (k0_pay4 (qstg m ρ c)) (kslot m ρ (pl c 5)) (vslot m ρ (pl c 5))))
        (addA (k0_pay4 (qstg m ρ c)) (kslot m ρ (pl c 4)) (vslot m ρ (pl c 4))))
        (addA (k0_pay4 (qstg m ρ c)) (kslot m ρ (pl c 3)) (vslot m ρ (pl c 3))))
        (addA (k0_pay4 (qstg m ρ c)) (kslot m ρ (pl c 2)) (vslot m ρ (pl c 2))))
        (addA (k0_pay4 (qstg m ρ c)) (kslot m ρ (pl c 1)) (vslot m ρ (pl c 1))))
        (addA (k0_pay4 (qstg m ρ c)) (kslot m ρ (pl c 0)) (vslot m ρ (pl c 0))))
      (broadcast S512x128 (Named.named κ "step" 0x3D214285#32)))
    (broadcastTo S512x128 (addf (addf (addf (addf (addf (addf (addf (addf (broadcast S512x1 (Scalar.ofBits .f32 0x00000000#32))
        (addL (k0_pay4 (qstg m ρ c)) (kslot m ρ c)))
        (addL (k0_pay4 (qstg m ρ c)) (kslot m ρ (pl c 6))))
        (addL (k0_pay4 (qstg m ρ c)) (kslot m ρ (pl c 5))))
        (addL (k0_pay4 (qstg m ρ c)) (kslot m ρ (pl c 4))))
        (addL (k0_pay4 (qstg m ρ c)) (kslot m ρ (pl c 3))))
        (addL (k0_pay4 (qstg m ρ c)) (kslot m ρ (pl c 2))))
        (addL (k0_pay4 (qstg m ρ c)) (kslot m ρ (pl c 1))))
        (addL (k0_pay4 (qstg m ρ c)) (kslot m ρ (pl c 0)))) broadcasts_S512x1_S512x128) := rfl

set_option maxRecDepth 16384

theorem wts_apply (q : FVec Ideal S512x128 .bf16) (kb : IVec S1x1x512x128 8) (r s : Fin 512) :
    wts q kb (ix2 r s) = Ideal.exp (∑ e : Fin 128, q (ix2 r e) * (((kb (ix4 0 0 s e)).toInt : ℝ) : EReal)) := by
  pointwise [wts, k0_pay8]
  rfl

theorem addL_apply (q : FVec Ideal S512x128 .bf16) (kb : IVec S1x1x512x128 8) (r : Fin 512) :
    addL q kb (ix2 r 0) = ∑ s : Fin 512, wts q kb (ix2 r s) := by
  pointwise [addL]

theorem addA_apply (q : FVec Ideal S512x128 .bf16) (kb vb : IVec S1x1x512x128 8) (r : Fin 512) (d : Fin 128) :
    addA q kb vb (ix2 r d) = ∑ s : Fin 512, wts q kb (ix2 r s) * (((vb (ix4 0 0 s d)).toInt : ℝ) : EReal) := by
  pointwise [addA, k0_pay11]
  rfl

theorem pay4_apply (x : FVec Ideal S512x128 .bf16) (r : Fin 512) (e : Fin 128) :
    k0_pay4 x (ix2 r e) = x (ix2 r e) * (((Real.sqrt 128)⁻¹ * (5 / 127) : ℝ) : EReal) := by
  pointwise [k0_pay4]
  rw [IdealRules.named_const.ideal_named_scalar _ _ _ _ rfl]

theorem int_127 : (((127#32).toInt : ℤ) : ℝ) = 127 := by
  rw [show (127#32).toInt = 127 by decide]; norm_num
theorem int_neg127 : (((4294967169#32).toInt : ℤ) : ℝ) = -127 := by
  rw [show (4294967169#32).toInt = -127 by decide]; norm_num

theorem pay1_apply (x : FVec Ideal S512x128 .bf16) (s : Fin 512) (e : Fin 128) :
    (k0_pay1 (F := Ideal) x (ix4 0 0 s e)).toInt = level (x (ix2 s e)) := by
  pointwise [k0_pay1]
  rw [IdealRules.named_const.ideal_named_scalar _ _ _ _ rfl]
  rw [int_127, int_neg127]
  exact level_kernel _

theorem pay3_apply (x : FVec Ideal S512x128 .bf16) (s : Fin 512) (e : Fin 128) :
    (k0_pay3 (k0_pay2 (F := Ideal) x) (ix4 0 0 s e)).toInt = level (x (ix2 s e)) := by
  pointwise [k0_pay3, k0_pay2]
  rw [IdealRules.named_const.ideal_named_scalar _ _ _ _ rfl]
  rw [int_127, int_neg127]
  exact level_kernel _

/-! ## The arrays a device stages are its arguments -/

/-- The rows of `q`, `k` and `v` that device `c` holds. -/
def argQ (c : Dev nD) : FVec Ideal S512x128 .bf16 := m ((c.tc : Thread nD τ).loc main_arg0)
def argK (c : Dev nD) : FVec Ideal S512x128 .bf16 := m ((c.tc : Thread nD τ).loc main_arg1)
def argV (c : Dev nD) : FVec Ideal S512x128 .bf16 := m ((c.tc : Thread nD τ).loc main_arg2)

theorem qstg_eq (c : Dev nD) : qstg m ρ c = argQ m c := by
  funext i
  refine congrArg (m ((c.tc : Thread nD τ).loc main_arg0)) (funext fun a => Fin.ext ?_)
  blk_simp
  rw [show win0_0.index (0 : Fin 1) a = 0 from rfl, Nat.zero_mul, Nat.zero_add]
theorem kstg_eq (c : Dev nD) : kstg m ρ c = argK m c := by
  funext i
  refine congrArg (m ((c.tc : Thread nD τ).loc main_arg1)) (funext fun a => Fin.ext ?_)
  blk_simp
  rw [show win0_1.index (0 : Fin 1) a = 0 from rfl, Nat.zero_mul, Nat.zero_add]
theorem vstg_eq (c : Dev nD) : vstg m ρ c = argV m c := by
  funext i
  refine congrArg (m ((c.tc : Thread nD τ).loc main_arg2)) (funext fun a => Fin.ext ?_)
  blk_simp
  rw [show win0_2.index (0 : Fin 1) a = 0 from rfl, Nat.zero_mul, Nat.zero_add]

/-- The whole output array is written back once, with what the body stored. -/
theorem out_array (c : Dev nD) : (dats m ρ 0 c).arrAt 3 cfg0.N = outAt m ρ c := by
  refine (dats m ρ 0 c).arrAt_eq_of_after_last 3 t₀ (by decide +kernel) _ fun j => ?_
  blk_simp
  rfl

/-! ## Device by device -/

/-- A device meets its own block first and then the others, each once. -/
theorem around {M : Type} [AddCommMonoid M] (f : Dev nD → M) (c : Dev nD) :
    0 + f c + f (pl c 6) + f (pl c 5) + f (pl c 4) + f (pl c 3) + f (pl c 2) + f (pl c 1) + f (pl c 0) = ∑ j, f j := by
  have h : ∑ j, f j = f 0 + f 1 + f 2 + f 3 + f 4 + f 5 + f 6 + f 7 := Fin.sum_univ_eight f
  rw [h]
  fin_cases c
  · show 0 + f 0 + f 7 + f 6 + f 5 + f 4 + f 3 + f 2 + f 1 = _; abel
  · show 0 + f 1 + f 0 + f 7 + f 6 + f 5 + f 4 + f 3 + f 2 = _; abel
  · show 0 + f 2 + f 1 + f 0 + f 7 + f 6 + f 5 + f 4 + f 3 = _; abel
  · show 0 + f 3 + f 2 + f 1 + f 0 + f 7 + f 6 + f 5 + f 4 = _; abel
  · show 0 + f 4 + f 3 + f 2 + f 1 + f 0 + f 7 + f 6 + f 5 = _; abel
  · show 0 + f 5 + f 4 + f 3 + f 2 + f 1 + f 0 + f 7 + f 6 = _; abel
  · show 0 + f 6 + f 5 + f 4 + f 3 + f 2 + f 1 + f 0 + f 7 = _; abel
  · show 0 + f 7 + f 6 + f 5 + f 4 + f 3 + f 2 + f 1 + f 0 = _; abel

/-- The weight of row `s` of a block of keys for row `r` of the queries. -/
def weight (q k : FVec Ideal S512x128 .bf16) (r s : Fin 512) : EReal :=
  Ideal.exp (∑ e : Fin 128, q (ix2 r e) * (((Real.sqrt 128)⁻¹ * (5 / 127) : ℝ) : EReal) * ((level (k (ix2 s e)) : ℝ) : EReal))

/-- Row `r`, column `d` of the stored block: the weighted sum of the values' levels over all devices' rows, times the
    step, over the sum of the weights. -/
theorem outAt_apply (c : Dev nD) (r : Fin 512) (d : Fin 128) :
    outAt m ρ c (ix2 r d) = Ideal.div
      ((∑ j : Dev nD, ∑ s : Fin 512, weight (argQ m c) (argK m j) r s * ((level (argV m j (ix2 s d)) : ℝ) : EReal)) * ((5 / 127 : ℝ) : EReal))
      (∑ j : Dev nD, ∑ s : Fin 512, weight (argQ m c) (argK m j) r s) := by
  have hw : ∀ (j : Dev nD) (s : Fin 512), wts (k0_pay4 (qstg m ρ c)) (kslot m ρ j) (ix2 r s) = weight (argQ m c) (argK m j) r s :=
    fun j s => by
      rw [wts_apply]
      refine congrArg Ideal.exp (Finset.sum_congr rfl fun e _ => ?_)
      rw [pay4_apply, qstg_eq, kslot, pay1_apply, kstg_eq]
  have hv : ∀ (j : Dev nD) (s : Fin 512), (vslot m ρ j (ix4 0 0 s d)).toInt = level (argV m j (ix2 s d)) := fun j s => by
    rw [vslot, pay3_apply, vstg_eq]
  rw [outAt_eq]
  simp only [← hw, ← hv, ← addL_apply, ← addA_apply]
  rw [← around (fun j => addA (k0_pay4 (qstg m ρ c)) (kslot m ρ j) (vslot m ρ j) (ix2 r d)) c,
    ← around (fun j => addL (k0_pay4 (qstg m ρ c)) (kslot m ρ j) (ix2 r 0)) c]
  pointwise
  rw [IdealRules.named_const.ideal_named_scalar _ _ _ _ rfl]

end Cert.Attn

end
-- ==== Proof.RefValue.lean ====
/- The reference's result, read at an index: a softmax over all rows, with the keys and values rounded to the grid. -/
module

public import proofs.«01_k».proof.Proof.Gen.ReferenceIdeal.Run
public import proofs.«01_k».proof.Proof.Quant
public import Idealize.ShloMosaic.Lib.Pointwise

@[expose] public section

set_option maxRecDepth 16384

noncomputable section

namespace Cert.Attn.Ref

open Cert.ReferenceIdeal Cert.ReferenceIdeal.Gen Cert.ReferenceIdeal.Value
open Idealize.ShloMosaic Idealize.ShloMosaic.TcCoe

/-! ## The stages of the reference -/

/-- Keys or values rounded to the grid. -/
def rounded (x : FVec Ideal S4096x128 .bf16) : FVec Ideal S4096x128 .f32 :=
  Host.divf (mulf (minimumf (broadcastInDim S4096x128 ![] bcast_S_S4096x128 (id (constant S_ .f32 0x42FE0000#32)))
      (maximumf (broadcastInDim S4096x128 ![] bcast_S_S4096x128 (id (constant S_ .f32 0xC2FE0000#32)))
        (Host.roundeven (Host.divf
          (mulf (extf .f32 x bitsLt_bf16_f32) (broadcastInDim S4096x128 ![] bcast_S_S4096x128 (constant S_ .f32 0x42FE0000#32)))
          (broadcastInDim S4096x128 ![] bcast_S_S4096x128 (constant S_ .f32 0x40A00000#32))))))
      (broadcastInDim S4096x128 ![] bcast_S_S4096x128 (constant S_ .f32 0x40A00000#32)))
    (broadcastInDim S4096x128 ![] bcast_S_S4096x128 (constant S_ .f32 0x42FE0000#32))

/-- The scores of every row of the queries against every row of the keys. -/
def scores (q k : FVec Ideal S4096x128 .bf16) : FVec Ideal S4096x4096 .f32 :=
  Host.divf (Host.dotGeneral dot_S4096x128_S128x4096_S4096x4096_1_0_0_1_n_n none (extf .f32 q bitsLt_bf16_f32)
      (transpose S128x4096 [1, 0] (rounded k) transposes_S4096x128_S128x4096_1_0))
    (broadcastInDim S4096x4096 ![] bcast_S_S4096x4096 (id (Host.sqrt (constant S_ .f32 0x43000000#32))))

/-- The greatest score of each row. -/
def peaks (q k : FVec Ideal S4096x128 .bf16) : FVec Ideal S4096 .f32 :=
  Host.reduce FloatOps.maximumf (scores q k) (constant S_ .f32 0xFF800000#32) reducesTo_S4096x4096_S4096_d1 h_S_

/-- The exponentials of the scores below their row's peak. -/
def expos (q k : FVec Ideal S4096x128 .bf16) : FVec Ideal S4096x4096 .f32 :=
  Host.exp (subf (scores q k) (broadcastInDim S4096x4096 ![0, 1] bcast_S4096x1_S4096x4096_0_1
    (broadcastInDim S4096x1 ![0] bcast_S4096_S4096x1_0 (peaks q k))))

/-- The sum of each row's exponentials. -/
def sums (q k : FVec Ideal S4096x128 .bf16) : FVec Ideal S4096 .f32 :=
  Host.reduceAdd (expos q k) (constant S_ .f32 0x00000000#32) reducesTo_S4096x4096_S4096_d1 h_S_

/-- The reference's result. -/
def attention (q k v : FVec Ideal S4096x128 .bf16) : FVec Ideal S4096x128 .f32 :=
  Host.dotGeneral dot_S4096x4096_S4096x128_S4096x128_1_0_0_1_n_n none
    (Host.divf (expos q k) (broadcastInDim S4096x4096 ![0, 1] bcast_S4096x1_S4096x4096_0_1
      (broadcastInDim S4096x1 ![0] bcast_S4096_S4096x1_0 (sums q k)))) (rounded v)

theorem result_eq (m : (ℓ : Loc nD τ sig) → Buf (Elt Ideal) ℓ) (c : Dev nD) :
    res_out0 m c = attention (m ((c.tc : Thread nD τ).loc main_arg0)) (m ((c.tc : Thread nD τ).loc main_arg1))
      (m ((c.tc : Thread nD τ).loc main_arg2)) := rfl

/-! ## Each of them at an index -/

theorem rounded_apply (x : FVec Ideal S4096x128 .bf16) (t : Fin 4096) (e : Fin 128) :
    rounded x (ix2 t e) = ((level (x (ix2 t e)) * (5 / 127) : ℝ) : EReal) := by
  pointwise [rounded]
  simp only [id_eq, constant]
  pointwise
  rw [word_127, word_neg127, word_5, level_reference, worth]

theorem root : Ideal.sqrt (Ideal.ofBits .f32 0x43000000#32) = ((Real.sqrt 128 : ℝ) : EReal) := by
  rw [word_128, Ideal.sqrt_coe, if_neg (by norm_num)]

theorem scores_apply (q k : FVec Ideal S4096x128 .bf16) (r t : Fin 4096) :
    scores q k (ix2 r t) = (∑ e : Fin 128, q (ix2 r e) * ((level (k (ix2 t e)) * (5 / 127) : ℝ) : EReal)) * ((1 / Real.sqrt 128 : ℝ) : EReal) := by
  simp only [← rounded_apply]
  rw [← Ideal.div_coe (by positivity), ← root]
  pointwise [scores]
  rfl

theorem peaks_apply (q k : FVec Ideal S4096x128 .bf16) (r : Fin 4096) :
    peaks q k (ix1 r) = Finset.univ.fold max ⊥ fun t : Fin 4096 => scores q k (ix2 r t) := by
  pointwise [peaks]
  rw [word_bot]

theorem expos_apply (q k : FVec Ideal S4096x128 .bf16) (r t : Fin 4096) :
    expos q k (ix2 r t) = Ideal.exp (scores q k (ix2 r t) - peaks q k (ix1 r)) := by
  pointwise [expos]

theorem sums_apply (q k : FVec Ideal S4096x128 .bf16) (r : Fin 4096) :
    sums q k (ix1 r) = ∑ t : Fin 4096, expos q k (ix2 r t) := by
  pointwise [sums]

theorem attention_apply (q k v : FVec Ideal S4096x128 .bf16) (r : Fin 4096) (d : Fin 128) :
    attention q k v (ix2 r d) = ∑ t : Fin 4096, Ideal.div (expos q k (ix2 r t)) (sums q k (ix1 r)) * ((level (v (ix2 t d)) * (5 / 127) : ℝ) : EReal) := by
  simp only [← rounded_apply]
  pointwise [attention]

end Cert.Attn.Ref

end
-- ==== Proof.Softmax.lean ====
/- Sums, maxima and quotients of reals among the extended reals, and the one identity of the softmax that the proof rests
   on: taking a constant off every score, and dividing before or after the weighted sum, change nothing. -/
module

public import Idealize.ShloMosaic.PureOps.Ideal

@[expose] public section

noncomputable section

namespace Cert.Attn

open Idealize.ShloMosaic

/-- A finite sum of reals is the same sum among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of finitely many reals, at least one, is a real. -/
theorem peak_real {ι : Type} (s : Finset ι) (hs : s.Nonempty) (f : ι → ℝ) :
    ∃ μ : ℝ, s.fold max ⊥ (fun t => (f t : EReal)) = (μ : EReal) := by
  induction hs using Finset.Nonempty.cons_induction with
  | singleton a => exact ⟨f a, by rw [Finset.fold_singleton, max_eq_left bot_le]⟩
  | cons a s ha hs ih =>
    obtain ⟨μ, h⟩ := ih
    exact ⟨max (f a) μ, by rw [Finset.fold_cons, h, EReal.coe_strictMono.monotone.map_max]⟩

/-- A quotient of reals by a real other than zero. -/
theorem div_real (x y : ℝ) (hy : y ≠ 0) : Ideal.div (x : EReal) (y : EReal) = ((x / y : ℝ) : EReal) := by
  rw [Ideal.div_coe hy, ← EReal.coe_mul, mul_one_div]

theorem sum_exp_pos {ι : Type} [Fintype ι] [Nonempty ι] (s : ι → ℝ) : 0 < ∑ t, Real.exp (s t) :=
  Finset.sum_pos (fun t _ => Real.exp_pos _) Finset.univ_nonempty

/-- The reference normalizes the weights, taken below a peak, and then sums; the kernel sums and then divides. -/
theorem softmax_eq {ι : Type} [Fintype ι] [Nonempty ι] (s n : ι → ℝ) (μ w : ℝ) :
    ∑ t, Real.exp (s t - μ) / (∑ u, Real.exp (s u - μ)) * (n t * w)
      = (∑ t, Real.exp (s t) * n t) * w / ∑ t, Real.exp (s t) := by
  have hpos := (sum_exp_pos s).ne'
  have hμ := (Real.exp_pos (-μ)).ne'
  have hs : ∑ u, Real.exp (s u - μ) = (∑ u, Real.exp (s u)) * Real.exp (-μ) := by
    rw [Finset.sum_mul]
    exact Finset.sum_congr rfl fun u _ => by rw [sub_eq_add_neg, Real.exp_add]
  rw [hs, Finset.sum_mul Finset.univ (fun t => Real.exp (s t) * n t), Finset.sum_div]
  refine Finset.sum_congr rfl fun t _ => ?_
  rw [sub_eq_add_neg, Real.exp_add]
  field_simp

/-- A sum over all 4096 rows, device by device. -/
theorem sum_rows {M : Type} [AddCommMonoid M] (f : Fin 4096 → M) :
    ∑ t, f t = ∑ j : Fin 8, ∑ s : Fin 512, f ⟨j.val * 512 + s.val, by omega⟩ := by
  have h := Fintype.sum_equiv (finProdFinEquiv : Fin 8 × Fin 512 ≃ Fin (8 * 512)) (fun x => f (finProdFinEquiv x)) f fun _ => rfl
  rw [← h, Fintype.sum_prod_type]
  refine Finset.sum_congr rfl fun j _ => Finset.sum_congr rfl fun s _ => congrArg f (Fin.ext ?_)
  show s.val + 512 * j.val = j.val * 512 + s.val
  omega

end Cert.Attn

end
-- ==== Proof.Value.lean ====
/- The kernel's blocks are the reference's rows, when every element of `q` is finite. -/
module

public import proofs.«01_k».proof.Proof.KernelValue
public import proofs.«01_k».proof.Proof.RefValue
public import proofs.«01_k».proof.Proof.Softmax
public import proofs.«01_k».proof.Proof.Frames

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

variable (m : (ℓ : Loc nD τ sig) → Buf (Elt Ideal) ℓ) (ρ : Dev nD → PrngReg)

/-! ## The kernel's block and the reference's -/

/-- Row `r` of device `c`, among all rows. -/
def rowOf (c : Dev nD) (r : Fin 512) : Fin 4096 := ⟨c.val * 512 + r.val, by have := c.isLt; have : nD = 8 := rfl; omega⟩

section Meet

variable {m}
variable {q k v : FVec Ideal Cert.ReferenceIdeal.S4096x128 .bf16}
variable (hq : ∀ c r e, argQ m c (ix2 r e) = q (ix2 (rowOf c r) e)) (hk : ∀ c r e, argK m c (ix2 r e) = k (ix2 (rowOf c r) e))
variable (hv : ∀ c r e, argV m c (ix2 r e) = v (ix2 (rowOf c r) e))

/-- The score of row `t` of the keys for a row `Q` of reals. -/
def realScore (k : FVec Ideal Cert.ReferenceIdeal.S4096x128 .bf16) (Q : Fin 128 → ℝ) (t : Fin 4096) : ℝ :=
  ∑ e : Fin 128, Q e * ((Real.sqrt 128)⁻¹ * (5 / 127)) * level (k (ix2 t e))

include hq hk in
theorem weight_real (c j : Dev nD) (r s : Fin 512) (Q : Fin 128 → ℝ) (hQ : ∀ e, q (ix2 (rowOf c r) e) = (Q e : EReal)) :
    weight (argQ m c) (argK m j) r s = ((Real.exp (realScore k Q (rowOf j s)) : ℝ) : EReal) := by
  rw [← Ideal.exp_coe, realScore, coe_sum, weight]
  refine congrArg Ideal.exp (Finset.sum_congr rfl fun e _ => ?_)
  rw [hq, hk, hQ, ← EReal.coe_mul, ← EReal.coe_mul]

include hq hk hv in
/-- The kernel's element as a real. -/
theorem kernel_real (c : Dev nD) (r : Fin 512) (d : Fin 128) (Q : Fin 128 → ℝ) (hQ : ∀ e, q (ix2 (rowOf c r) e) = (Q e : EReal)) :
    outAt m ρ c (ix2 r d) = (((∑ t : Fin 4096, Real.exp (realScore k Q t) * level (v (ix2 t d))) * (5 / 127)
      / ∑ t : Fin 4096, Real.exp (realScore k Q t) : ℝ) : EReal) := by
  rw [outAt_apply, ← div_real _ _ (sum_exp_pos _).ne', EReal.coe_mul, coe_sum, coe_sum, sum_rows, sum_rows]
  refine congrArg₂ Ideal.div (congrArg (· * ((5 / 127 : ℝ) : EReal)) ?_) ?_
  · refine Finset.sum_congr rfl fun j _ => Finset.sum_congr rfl fun s _ => ?_
    rw [weight_real hq hk c j r s Q hQ, hv, ← EReal.coe_mul]; rfl
  · exact Finset.sum_congr rfl fun j _ => Finset.sum_congr rfl fun s _ => weight_real hq hk c j r s Q hQ

/-- The reference's element as a real. -/
theorem reference_real (R : Fin 4096) (d : Fin 128) (Q : Fin 128 → ℝ) (hQ : ∀ e, q (ix2 R e) = (Q e : EReal)) :
    Ref.attention q k v (ix2 R d) = (((∑ t : Fin 4096, Real.exp (realScore k Q t) * level (v (ix2 t d))) * (5 / 127)
      / ∑ t : Fin 4096, Real.exp (realScore k Q t) : ℝ) : EReal) := by
  have hs : ∀ t, Ref.scores q k (ix2 R t) = (realScore k Q t : EReal) := fun t => by
    rw [Ref.scores_apply, realScore,
      show (∑ e : Fin 128, q (ix2 R e) * ((level (k (ix2 t e)) * (5 / 127) : ℝ) : EReal))
          = ((∑ e : Fin 128, Q e * (level (k (ix2 t e)) * (5 / 127)) : ℝ) : EReal) from by
        rw [coe_sum]; exact Finset.sum_congr rfl fun e _ => by rw [hQ, ← EReal.coe_mul],
      ← EReal.coe_mul, Finset.sum_mul]
    refine congrArg _ (Finset.sum_congr rfl fun e _ => ?_)
    rw [one_div]; ring
  obtain ⟨μ, hμ⟩ := peak_real Finset.univ Finset.univ_nonempty (realScore k Q)
  have hp : Ref.peaks q k (ix1 R) = (μ : EReal) := by
    rw [Ref.peaks_apply, ← hμ]
    exact congrArg (fun f => Finset.univ.fold max ⊥ f) (funext hs)
  have he : ∀ t, Ref.expos q k (ix2 R t) = ((Real.exp (realScore k Q t - μ) : ℝ) : EReal) := fun t => by
    rw [Ref.expos_apply, hs, hp, ← EReal.coe_sub, Ideal.exp_coe]
  have hsum : Ref.sums q k (ix1 R) = ((∑ t, Real.exp (realScore k Q t - μ) : ℝ) : EReal) := by
    rw [Ref.sums_apply, coe_sum]; exact Finset.sum_congr rfl fun t _ => he t
  rw [Ref.attention_apply, ← softmax_eq _ _ μ, coe_sum]
  refine Finset.sum_congr rfl fun t _ => ?_
  rw [he, hsum, div_real _ _ (sum_exp_pos fun t => realScore k Q t - μ).ne', ← EReal.coe_mul]

end Meet

end Cert.Attn

end
-- ==== Proof.Algebraic.lean ====
/- The claim that the kernel computes the reference's result: the two runs side by side. -/
module

public import proofs.«01_k».proof.Defs
public import proofs.«01_k».proof.Proof.Value
public import Idealize.ShloMosaic.Lib.ReduceAll

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_head rangeSet_empty rangeSet_univ head_not_mem_rangeSet bigSep_rangeSet_empty bigSep_rangeSet_head bigSep_rangeSet_last mem_rangeSet)
open Idealize.ShloMosaic.Pipeline (Dat Cfg Window BodyObligation cellOf)

/-! ## The precondition -/

instance pre_kernel : Cert.Pre_finite_KernelIdeal.Facts where
  bcast_S_S512x128 := by decide
  reducesTo_S512x128_S_d0_1 := by decide
  h_S_ := by decide
instance pre_reference : Cert.Pre_finite_ReferenceIdeal.Facts where
  bcast_S_S4096x128 := by decide
  reducesTo_S4096x128_S_d0_1 := by decide
  h_S_ := by decide

/-- An extended real whose absolute value is below `+∞` is a real. -/
theorem real_of_abs_lt (x : EReal) (h : max x (-x) < ⊤) : ∃ r : ℝ, x = (r : EReal) := by
  induction x with
  | bot => simp at h
  | top => simp at h
  | coe r => exact ⟨r, rfl⟩

/-- Where the precondition holds, every element of `q` is a real. -/
theorem finite_real (q k v : FVec Ideal S512x128 .bf16) (h : Cert.Pre_finite_KernelIdeal.fn (F := Ideal) q k v = fun _ => 1#1)
    (i : S512x128.Idx) : ∃ r : ℝ, q i = (r : EReal) := by
  have h0 := congrFun h ix0
  dsimp only [Cert.Pre_finite_KernelIdeal.fn] at h0
  have : Subsingleton Cert.Pre_finite_KernelIdeal.S_.Idx := ⟨fun a b => funext fun x => x.elim0⟩
  have hi := Host.reduce_andi_all _ _ _ _ _ h0 i
  refine real_of_abs_lt _ ?_
  have h1 : Ideal.cmp .olt (max (q i) (-(q i))) (Ideal.ofBits .bf16 0x7F80#16) = 1#1 := hi
  rw [word_top] at h1
  by_contra hn
  simp [Ideal.cmp, hn] at h1

/-! ## The claim -/

/-- Where device `c`'s element lies in the whole array. -/
theorem block_at {α : Type} (c : Fin 8) (x : (⟨2, ![4096, 128]⟩ : Shape).Idx → α) (r : Fin 512) (e : Fin 128) :
    Layout.block ⟨2, ![512, 128]⟩ ⟨2, ![4096, 128]⟩ 0 8 c x (by decide) (ix2 r e) = x (ix2 (rowOf c r) e) := by
  refine congrArg x (funext fun b => Fin.ext ?_)
  match b with
  | ⟨0, _⟩ => rfl
  | ⟨1, _⟩ => rfl

theorem algebraic : Cert.algebraic_KernelIdeal_ReferenceIdeal_pre_finite_KernelIdeal := by
  intro m g m' g' hpre hagree
  refine ⟨Cert.ReferenceIdeal.Value.res_out0 m' 0, ?_, ?_⟩
  · refine (θ_run defs _ _).mono (fun r h c => ⟨?_, (h.1 c 0).trans ((dats (F := Ideal) m g 0 c).arrAt_in (0 : Fin 4) rfl _),
      (h.1 c 1).trans ((dats (F := Ideal) m g 0 c).arrAt_in (1 : Fin 4) rfl _),
      (h.1 c 2).trans ((dats (F := Ideal) m g 0 c).arrAt_in (2 : Fin 4) rfl _)⟩) (run_main (F := Ideal) m g)
    refine ((h.1 c 3).trans (out_array m g c)).trans (funext fun i => ?_)
    obtain ⟨a, b, rfl⟩ : ∃ (a : Fin 512) (b : Fin 128), i = ix2 a b := ⟨i 0, i 1, eq_ix2 i⟩
    refine Eq.trans ?_ (block_at c _ a b).symm
    have hq : ∀ c r e, argQ m c (ix2 r e) = m' (((0 : Dev Cert.ReferenceIdeal.nD).tc : Thread Cert.ReferenceIdeal.nD Cert.ReferenceIdeal.τ).loc Cert.ReferenceIdeal.main_arg0) (ix2 (rowOf c r) e) :=
      fun c r e => (congrFun (hagree c).1 (ix2 r e)).trans (block_at c _ r e)
    have hk : ∀ c r e, argK m c (ix2 r e) = m' (((0 : Dev Cert.ReferenceIdeal.nD).tc : Thread Cert.ReferenceIdeal.nD Cert.ReferenceIdeal.τ).loc Cert.ReferenceIdeal.main_arg1) (ix2 (rowOf c r) e) :=
      fun c r e => (congrFun (hagree c).2.1 (ix2 r e)).trans (block_at c _ r e)
    have hv : ∀ c r e, argV m c (ix2 r e) = m' (((0 : Dev Cert.ReferenceIdeal.nD).tc : Thread Cert.ReferenceIdeal.nD Cert.ReferenceIdeal.τ).loc Cert.ReferenceIdeal.main_arg2) (ix2 (rowOf c r) e) :=
      fun c r e => (congrFun (hagree c).2.2 (ix2 r e)).trans (block_at c _ r e)
    choose Q hQ using fun e : Fin 128 => finite_real _ _ _ (hpre c) (ix2 a e)
    have hQ' := fun e => (hq c a e).symm.trans (hQ e)
    rw [kernel_real g hq hk hv c a b Q hQ', Ref.result_eq]
    exact (reference_real _ b Q hQ').symm
  · exact (θ_run Cert.ReferenceIdeal.defs _ _).mono (fun r h => h 0) (Cert.ReferenceIdeal.Value.run (F := Ideal) m' g')

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.Attn.pre_kernel, Cert.Attn.pre_reference,
    Cert.Attn.frame_kernel, Cert.Attn.frame_ideal, fun m g _ => Cert.Attn.frame_ideal m g trivial,
    Cert.Attn.frame_reference, fun m g _ => Cert.Attn.frame_reference m g trivial,
    Cert.Attn.preserves, Cert.Attn.algebraic⟩

end Cert.Proof

end
